-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x128x64 : Shape := ⟨4, ![2, 256, 128, 64]⟩
abbrev S256x512 : Shape := ⟨2, ![256, 512]⟩
abbrev S2x256x64x128 : Shape := ⟨4, ![2, 256, 64, 128]⟩
abbrev S2x16384x128 : Shape := ⟨3, ![2, 16384, 128]⟩
abbrev S32x16x512 : Shape := ⟨3, ![32, 16, 512]⟩
abbrev S31x16x512 : Shape := ⟨3, ![31, 16, 512]⟩
abbrev S2x2x4096x128 : Shape := ⟨4, ![2, 2, 4096, 128]⟩
abbrev S2x256x256 : Shape := ⟨3, ![2, 256, 256]⟩
abbrev S2 : Shape := ⟨1, ![2]⟩
abbrev S3 : Shape := ⟨1, ![3]⟩
abbrev S_ : Shape := ⟨0, ![]⟩
abbrev S31 : Shape := ⟨1, ![31]⟩
abbrev S1 : Shape := ⟨1, ![1]⟩
abbrev S1x2x4096x128 : Shape := ⟨4, ![1, 2, 4096, 128]⟩
abbrev S2x4096x128 : Shape := ⟨3, ![2, 4096, 128]⟩
abbrev S128x256 : Shape := ⟨2, ![128, 256]⟩
abbrev S64x64x256 : Shape := ⟨3, ![64, 64, 256]⟩
abbrev S512x512 : Shape := ⟨2, ![512, 512]⟩
abbrev S8192x128 : Shape := ⟨2, ![8192, 128]⟩
abbrev S8192x256 : Shape := ⟨2, ![8192, 256]⟩
abbrev S2x64x64x256 : Shape := ⟨4, ![2, 64, 64, 256]⟩
abbrev S1x64x64x256 : Shape := ⟨4, ![1, 64, 64, 256]⟩
abbrev S64x256 : Shape := ⟨2, ![64, 256]⟩
abbrev S1x64x256 : Shape := ⟨3, ![1, 64, 256]⟩
abbrev S256x256 : Shape := ⟨2, ![256, 256]⟩
abbrev S256x64 : Shape := ⟨2, ![256, 64]⟩
abbrev S1x256x64 : Shape := ⟨3, ![1, 256, 64]⟩
abbrev S256 : Shape := ⟨1, ![256]⟩
abbrev S256x1 : Shape := ⟨2, ![256, 1]⟩
abbrev S1x16x512 : Shape := ⟨3, ![1, 16, 512]⟩
abbrev S16x512 : Shape := ⟨2, ![16, 512]⟩

abbrev nBuf : Space → Nat
  | .hbm => 11
  | .vmem => 11
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x128x64, .f32⟩
  | .hbm, ⟨3, _⟩ => ⟨S2x256x128x64, .f32⟩
  | .hbm, ⟨4, _⟩ => ⟨S256x512, .f32⟩
  | .hbm, ⟨5, _⟩ => ⟨S2x256x64x128, .f32⟩
  | .hbm, ⟨6, _⟩ => ⟨S2x16384x128, .f32⟩
  | .hbm, ⟨7, _⟩ => ⟨S2x256x64x128, .f32⟩
  | .hbm, ⟨8, _⟩ => ⟨S2x16384x128, .f32⟩
  | .hbm, ⟨9, _⟩ => ⟨S32x16x512, .f32⟩
  | .hbm, ⟨10, _⟩ => ⟨S2x256x512, .f32⟩
  | .local _ .vmem, ⟨0, _⟩ => ⟨S32x16x512, .bf16⟩
  | .local _ .vmem, ⟨1, _⟩ => ⟨S31x16x512, .bf16⟩
  | .local _ .vmem, ⟨2, _⟩ => ⟨S31x16x512, .bf16⟩
  | .local _ .vmem, ⟨3, _⟩ => ⟨S2x2x4096x128, .f32⟩
  | .local _ .vmem, ⟨4, _⟩ => ⟨S2x2x4096x128, .f32⟩
  | .local _ .vmem, ⟨5, _⟩ => ⟨S2x256x256, .bf16⟩
  | .local _ .vmem, ⟨6, _⟩ => ⟨S2x256x256, .bf16⟩
  | .local _ .vmem, ⟨7, _⟩ => ⟨S2x256x512, .f32⟩
  | .local _ .vmem, ⟨8, _⟩ => ⟨S512x256, .f32⟩
  | .local _ .vmem, ⟨9, _⟩ => ⟨S256x512, .f32⟩
  | .local _ .vmem, ⟨10, _⟩ => ⟨S32x16x512, .f32⟩
  | _, _ => ⟨S2x256x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_32 : BitVec 32 := 1#32
  let v30 : BitVec 32 := Scalar.addi v2 c1_i32_32
  let c0_i32_33 : BitVec 32 := 0#32
  let v31 : BitVec 32 := Scalar.addi v30 c0_i32_33
  let c32_i32_34 : BitVec 32 := 32#32
  let v32 : BitVec 32 := Scalar.remsi v31 c32_i32_34
  let c1_i32_36 : BitVec 32 := 1#32
  let v33 : BitVec 32 := Scalar.muli v32 c1_i32_36
  let v34 : BitVec 32 := Scalar.addi c0_i32_37 v33
  v34.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v35 : BitVec 32 := Scalar.addi v2 c1_i32_38
  let c1_i32_39 : BitVec 32 := 1#32
  let v36 : BitVec 32 := Scalar.addi v35 c1_i32_39
  let c32_i32_40 : BitVec 32 := 32#32
  let v37 : BitVec 32 := Scalar.remsi v36 c32_i32_40
  let c1_i32_42 : BitVec 32 := 1#32
  let v38 : BitVec 32 := Scalar.muli v37 c1_i32_42
  let v39 : BitVec 32 := Scalar.addi c0_i32_43 v38
  v39.toNat
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_44 : BitVec 32 := 1#32
  let v40 : BitVec 32 := Scalar.addi v2 c1_i32_44
  let c2_i32_45 : BitVec 32 := 2#32
  let v41 : BitVec 32 := Scalar.addi v40 c2_i32_45
  let c32_i32_46 : BitVec 32 := 32#32
  let v42 : BitVec 32 := Scalar.remsi v41 c32_i32_46
  let c1_i32_48 : BitVec 32 := 1#32
  let v43 : BitVec 32 := Scalar.muli v42 c1_i32_48
  let v44 : BitVec 32 := Scalar.addi c0_i32_49 v43
  v44.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_50 : BitVec 32 := 1#32
  let v45 : BitVec 32 := Scalar.addi v2 c1_i32_50
  let c3_i32 : BitVec 32 := 3#32
  let v46 : BitVec 32 := Scalar.addi v45 c3_i32
  let c32_i32_51 : BitVec 32 := 32#32
  let v47 : BitVec 32 := Scalar.remsi v46 c32_i32_51
  let c1_i32_53 : BitVec 32 := 1#32
  let v48 : BitVec 32 := Scalar.muli v47 c1_i32_53
  let v49 : BitVec 32 := Scalar.addi c0_i32_54 v48
  v49.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_55 : BitVec 32 := 1#32
  let v50 : BitVec 32 := Scalar.addi v2 c1_i32_55
  let c4_i32 : BitVec 32 := 4#32
  let v51 : BitVec 32 := Scalar.addi v50 c4_i32
  let c32_i32_56 : BitVec 32 := 32#32
  let v52 : BitVec 32 := Scalar.remsi v51 c32_i32_56
  let c1_i32_58 : BitVec 32 := 1#32
  let v53 : BitVec 32 := Scalar.muli v52 c1_i32_58
  let v54 : BitVec 32 := Scalar.addi c0_i32_59 v53
  v54.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_60 : BitVec 32 := 1#32
  let v55 : BitVec 32 := Scalar.addi v2 c1_i32_60
  let c5_i32 : BitVec 32 := 5#32
  let v56 : BitVec 32 := Scalar.addi v55 c5_i32
  let c32_i32_61 : BitVec 32 := 32#32
  let v57 : BitVec 32 := Scalar.remsi v56 c32_i32_61
  let c1_i32_63 : BitVec 32 := 1#32
  let v58 : BitVec 32 := Scalar.muli v57 c1_i32_63
  let v59 : BitVec 32 := Scalar.addi c0_i32_64 v58
  v59.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_65 : BitVec 32 := 1#32
  let v60 : BitVec 32 := Scalar.addi v2 c1_i32_65
  let c6_i32 : BitVec 32 := 6#32
  let v61 : BitVec 32 := Scalar.addi v60 c6_i32
  let c32_i32_66 : BitVec 32 := 32#32
  let v62 : BitVec 32 := Scalar.remsi v61 c32_i32_66
  let c1_i32_68 : BitVec 32 := 1#32
  let v63 : BitVec 32 := Scalar.muli v62 c1_i32_68
  let v64 : BitVec 32 := Scalar.addi c0_i32_69 v63
  v64.toNat
def k0_dev8 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_70 : BitVec 32 := 1#32
  let v65 : BitVec 32 := Scalar.addi v2 c1_i32_70
  let c7_i32 : BitVec 32 := 7#32
  let v66 : BitVec 32 := Scalar.addi v65 c7_i32
  let c32_i32_71 : BitVec 32 := 32#32
  let v67 : BitVec 32 := Scalar.remsi v66 c32_i32_71
  let c1_i32_73 : BitVec 32 := 1#32
  let v68 : BitVec 32 := Scalar.muli v67 c1_i32_73
  let v69 : BitVec 32 := Scalar.addi c0_i32_74 v68
  v69.toNat
def k0_dev9 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_75 : BitVec 32 := 1#32
  let v70 : BitVec 32 := Scalar.addi v2 c1_i32_75
  let c8_i32 : BitVec 32 := 8#32
  let v71 : BitVec 32 := Scalar.addi v70 c8_i32
  let c32_i32_76 : BitVec 32 := 32#32
  let v72 : BitVec 32 := Scalar.remsi v71 c32_i32_76
  let c1_i32_78 : BitVec 32 := 1#32
  let v73 : BitVec 32 := Scalar.muli v72 c1_i32_78
  let v74 : BitVec 32 := Scalar.addi c0_i32_79 v73
  v74.toNat
def k0_dev10 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_80 : BitVec 32 := 1#32
  let v75 : BitVec 32 := Scalar.addi v2 c1_i32_80
  let c9_i32 : BitVec 32 := 9#32
  let v76 : BitVec 32 := Scalar.addi v75 c9_i32
  let c32_i32_81 : BitVec 32 := 32#32
  let v77 : BitVec 32 := Scalar.remsi v76 c32_i32_81
  let c1_i32_83 : BitVec 32 := 1#32
  let v78 : BitVec 32 := Scalar.muli v77 c1_i32_83
  let v79 : BitVec 32 := Scalar.addi c0_i32_84 v78
  v79.toNat
def k0_dev11 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_85 : BitVec 32 := 1#32
  let v80 : BitVec 32 := Scalar.addi v2 c1_i32_85
  let c10_i32 : BitVec 32 := 10#32
  let v81 : BitVec 32 := Scalar.addi v80 c10_i32
  let c32_i32_86 : BitVec 32 := 32#32
  let v82 : BitVec 32 := Scalar.remsi v81 c32_i32_86
  let c1_i32_88 : BitVec 32 := 1#32
  let v83 : BitVec 32 := Scalar.muli v82 c1_i32_88
  let v84 : BitVec 32 := Scalar.addi c0_i32_89 v83
  v84.toNat
def k0_dev12 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_90 : BitVec 32 := 1#32
  let v85 : BitVec 32 := Scalar.addi v2 c1_i32_90
  let c11_i32 : BitVec 32 := 11#32
  let v86 : BitVec 32 := Scalar.addi v85 c11_i32
  let c32_i32_91 : BitVec 32 := 32#32
  let v87 : BitVec 32 := Scalar.remsi v86 c32_i32_91
  let c1_i32_93 : BitVec 32 := 1#32
  let v88 : BitVec 32 := Scalar.muli v87 c1_i32_93
  let v89 : BitVec 32 := Scalar.addi c0_i32_94 v88
  v89.toNat
def k0_dev13 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_95 : BitVec 32 := 1#32
  let v90 : BitVec 32 := Scalar.addi v2 c1_i32_95
  let c12_i32 : BitVec 32 := 12#32
  let v91 : BitVec 32 := Scalar.addi v90 c12_i32
  let c32_i32_96 : BitVec 32 := 32#32
  let v92 : BitVec 32 := Scalar.remsi v91 c32_i32_96
  let c1_i32_98 : BitVec 32 := 1#32
  let v93 : BitVec 32 := Scalar.muli v92 c1_i32_98
  let v94 : BitVec 32 := Scalar.addi c0_i32_99 v93
  v94.toNat
def k0_dev14 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_100 : BitVec 32 := 1#32
  let v95 : BitVec 32 := Scalar.addi v2 c1_i32_100
  let c13_i32 : BitVec 32 := 13#32
  let v96 : BitVec 32 := Scalar.addi v95 c13_i32
  let c32_i32_101 : BitVec 32 := 32#32
  let v97 : BitVec 32 := Scalar.remsi v96 c32_i32_101
  let c1_i32_103 : BitVec 32 := 1#32
  let v98 : BitVec 32 := Scalar.muli v97 c1_i32_103
  let v99 : BitVec 32 := Scalar.addi c0_i32_104 v98
  v99.toNat
def k0_dev15 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_105 : BitVec 32 := 1#32
  let v100 : BitVec 32 := Scalar.addi v2 c1_i32_105
  let c14_i32 : BitVec 32 := 14#32
  let v101 : BitVec 32 := Scalar.addi v100 c14_i32
  let c32_i32_106 : BitVec 32 := 32#32
  let v102 : BitVec 32 := Scalar.remsi v101 c32_i32_106
  let c1_i32_108 : BitVec 32 := 1#32
  let v103 : BitVec 32 := Scalar.muli v102 c1_i32_108
  let v104 : BitVec 32 := Scalar.addi c0_i32_109 v103
  v104.toNat
def k0_dev16 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_110 : BitVec 32 := 1#32
  let v105 : BitVec 32 := Scalar.addi v2 c1_i32_110
  let c15_i32 : BitVec 32 := 15#32
  let v106 : BitVec 32 := Scalar.addi v105 c15_i32
  let c32_i32_111 : BitVec 32 := 32#32
  let v107 : BitVec 32 := Scalar.remsi v106 c32_i32_111
  let c1_i32_113 : BitVec 32 := 1#32
  let v108 : BitVec 32 := Scalar.muli v107 c1_i32_113
  let v109 : BitVec 32 := Scalar.addi c0_i32_114 v108
  v109.toNat
def k0_dev17 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_115 : BitVec 32 := 1#32
  let v110 : BitVec 32 := Scalar.addi v2 c1_i32_115
  let c16_i32 : BitVec 32 := 16#32
  let v111 : BitVec 32 := Scalar.addi v110 c16_i32
  let c32_i32_116 : BitVec 32 := 32#32
  let v112 : BitVec 32 := Scalar.remsi v111 c32_i32_116
  let c1_i32_118 : BitVec 32 := 1#32
  let v113 : BitVec 32 := Scalar.muli v112 c1_i32_118
  let v114 : BitVec 32 := Scalar.addi c0_i32_119 v113
  v114.toNat
def k0_dev18 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_120 : BitVec 32 := 1#32
  let v115 : BitVec 32 := Scalar.addi v2 c1_i32_120
  let c17_i32 : BitVec 32 := 17#32
  let v116 : BitVec 32 := Scalar.addi v115 c17_i32
  let c32_i32_121 : BitVec 32 := 32#32
  let v117 : BitVec 32 := Scalar.remsi v116 c32_i32_121
  let c1_i32_123 : BitVec 32 := 1#32
  let v118 : BitVec 32 := Scalar.muli v117 c1_i32_123
  let v119 : BitVec 32 := Scalar.addi c0_i32_124 v118
  v119.toNat
def k0_dev19 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let v120 : BitVec 32 := Scalar.addi v2 c1_i32_125
  let c18_i32 : BitVec 32 := 18#32
  let v121 : BitVec 32 := Scalar.addi v120 c18_i32
  let c32_i32_126 : BitVec 32 := 32#32
  let v122 : BitVec 32 := Scalar.remsi v121 c32_i32_126
  let c1_i32_128 : BitVec 32 := 1#32
  let v123 : BitVec 32 := Scalar.muli v122 c1_i32_128
  let v124 : BitVec 32 := Scalar.addi c0_i32_129 v123
  v124.toNat
def k0_dev20 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_130 : BitVec 32 := 1#32
  let v125 : BitVec 32 := Scalar.addi v2 c1_i32_130
  let c19_i32 : BitVec 32 := 19#32
  let v126 : BitVec 32 := Scalar.addi v125 c19_i32
  let c32_i32_131 : BitVec 32 := 32#32
  let v127 : BitVec 32 := Scalar.remsi v126 c32_i32_131
  let c1_i32_133 : BitVec 32 := 1#32
  let v128 : BitVec 32 := Scalar.muli v127 c1_i32_133
  let v129 : BitVec 32 := Scalar.addi c0_i32_134 v128
  v129.toNat
def k0_dev21 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_135 : BitVec 32 := 1#32
  let v130 : BitVec 32 := Scalar.addi v2 c1_i32_135
  let c20_i32 : BitVec 32 := 20#32
  let v131 : BitVec 32 := Scalar.addi v130 c20_i32
  let c32_i32_136 : BitVec 32 := 32#32
  let v132 : BitVec 32 := Scalar.remsi v131 c32_i32_136
  let c1_i32_138 : BitVec 32 := 1#32
  let v133 : BitVec 32 := Scalar.muli v132 c1_i32_138
  let v134 : BitVec 32 := Scalar.addi c0_i32_139 v133
  v134.toNat
def k0_dev22 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_140 : BitVec 32 := 1#32
  let v135 : BitVec 32 := Scalar.addi v2 c1_i32_140
  let c21_i32 : BitVec 32 := 21#32
  let v136 : BitVec 32 := Scalar.addi v135 c21_i32
  let c32_i32_141 : BitVec 32 := 32#32
  let v137 : BitVec 32 := Scalar.remsi v136 c32_i32_141
  let c1_i32_143 : BitVec 32 := 1#32
  let v138 : BitVec 32 := Scalar.muli v137 c1_i32_143
  let v139 : BitVec 32 := Scalar.addi c0_i32_144 v138
  v139.toNat
def k0_dev23 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_145 : BitVec 32 := 1#32
  let v140 : BitVec 32 := Scalar.addi v2 c1_i32_145
  let c22_i32 : BitVec 32 := 22#32
  let v141 : BitVec 32 := Scalar.addi v140 c22_i32
  let c32_i32_146 : BitVec 32 := 32#32
  let v142 : BitVec 32 := Scalar.remsi v141 c32_i32_146
  let c1_i32_148 : BitVec 32 := 1#32
  let v143 : BitVec 32 := Scalar.muli v142 c1_i32_148
  let v144 : BitVec 32 := Scalar.addi c0_i32_149 v143
  v144.toNat
def k0_dev24 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_150 : BitVec 32 := 1#32
  let v145 : BitVec 32 := Scalar.addi v2 c1_i32_150
  let c23_i32 : BitVec 32 := 23#32
  let v146 : BitVec 32 := Scalar.addi v145 c23_i32
  let c32_i32_151 : BitVec 32 := 32#32
  let v147 : BitVec 32 := Scalar.remsi v146 c32_i32_151
  let c1_i32_153 : BitVec 32 := 1#32
  let v148 : BitVec 32 := Scalar.muli v147 c1_i32_153
  let v149 : BitVec 32 := Scalar.addi c0_i32_154 v148
  v149.toNat
def k0_dev25 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_155 : BitVec 32 := 1#32
  let v150 : BitVec 32 := Scalar.addi v2 c1_i32_155
  let c24_i32 : BitVec 32 := 24#32
  let v151 : BitVec 32 := Scalar.addi v150 c24_i32
  let c32_i32_156 : BitVec 32 := 32#32
  let v152 : BitVec 32 := Scalar.remsi v151 c32_i32_156
  let c1_i32_158 : BitVec 32 := 1#32
  let v153 : BitVec 32 := Scalar.muli v152 c1_i32_158
  let v154 : BitVec 32 := Scalar.addi c0_i32_159 v153
  v154.toNat
def k0_dev26 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_160 : BitVec 32 := 1#32
  let v155 : BitVec 32 := Scalar.addi v2 c1_i32_160
  let c25_i32 : BitVec 32 := 25#32
  let v156 : BitVec 32 := Scalar.addi v155 c25_i32
  let c32_i32_161 : BitVec 32 := 32#32
  let v157 : BitVec 32 := Scalar.remsi v156 c32_i32_161
  let c1_i32_163 : BitVec 32 := 1#32
  let v158 : BitVec 32 := Scalar.muli v157 c1_i32_163
  let v159 : BitVec 32 := Scalar.addi c0_i32_164 v158
  v159.toNat
def k0_dev27 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_165 : BitVec 32 := 1#32
  let v160 : BitVec 32 := Scalar.addi v2 c1_i32_165
  let c26_i32 : BitVec 32 := 26#32
  let v161 : BitVec 32 := Scalar.addi v160 c26_i32
  let c32_i32_166 : BitVec 32 := 32#32
  let v162 : BitVec 32 := Scalar.remsi v161 c32_i32_166
  let c1_i32_168 : BitVec 32 := 1#32
  let v163 : BitVec 32 := Scalar.muli v162 c1_i32_168
  let v164 : BitVec 32 := Scalar.addi c0_i32_169 v163
  v164.toNat
def k0_dev28 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_170 : BitVec 32 := 1#32
  let v165 : BitVec 32 := Scalar.addi v2 c1_i32_170
  let c27_i32 : BitVec 32 := 27#32
  let v166 : BitVec 32 := Scalar.addi v165 c27_i32
  let c32_i32_171 : BitVec 32 := 32#32
  let v167 : BitVec 32 := Scalar.remsi v166 c32_i32_171
  let c1_i32_173 : BitVec 32 := 1#32
  let v168 : BitVec 32 := Scalar.muli v167 c1_i32_173
  let v169 : BitVec 32 := Scalar.addi c0_i32_174 v168
  v169.toNat
def k0_dev29 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_175 : BitVec 32 := 1#32
  let v170 : BitVec 32 := Scalar.addi v2 c1_i32_175
  let c28_i32 : BitVec 32 := 28#32
  let v171 : BitVec 32 := Scalar.addi v170 c28_i32
  let c32_i32_176 : BitVec 32 := 32#32
  let v172 : BitVec 32 := Scalar.remsi v171 c32_i32_176
  let c1_i32_178 : BitVec 32 := 1#32
  let v173 : BitVec 32 := Scalar.muli v172 c1_i32_178
  let v174 : BitVec 32 := Scalar.addi c0_i32_179 v173
  v174.toNat
def k0_dev30 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_180 : BitVec 32 := 1#32
  let v175 : BitVec 32 := Scalar.addi v2 c1_i32_180
  let c29_i32 : BitVec 32 := 29#32
  let v176 : BitVec 32 := Scalar.addi v175 c29_i32
  let c32_i32_181 : BitVec 32 := 32#32
  let v177 : BitVec 32 := Scalar.remsi v176 c32_i32_181
  let c1_i32_183 : BitVec 32 := 1#32
  let v178 : BitVec 32 := Scalar.muli v177 c1_i32_183
  let v179 : BitVec 32 := Scalar.addi c0_i32_184 v178
  v179.toNat
def k0_dev31 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_185 : BitVec 32 := 1#32
  let v180 : BitVec 32 := Scalar.addi v2 c1_i32_185
  let c30_i32 : BitVec 32 := 30#32
  let v181 : BitVec 32 := Scalar.addi v180 c30_i32
  let c32_i32_186 : BitVec 32 := 32#32
  let v182 : BitVec 32 := Scalar.remsi v181 c32_i32_186
  let c1_i32_188 : BitVec 32 := 1#32
  let v183 : BitVec 32 := Scalar.muli v182 c1_i32_188
  let v184 : BitVec 32 := Scalar.addi c0_i32_189 v183
  v184.toNat
def k0_off1 (d0 : Dev nD) (c0_i32_537 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_536 : BitVec 32 := 1#32
  let v740 : BitVec 32 := Scalar.addi v2 c1_i32_536
  let v741 : BitVec 32 := Scalar.addi v740 c0_i32_537
  let c32_i32_538 : BitVec 32 := 32#32
  let v742 : BitVec 32 := Scalar.remsi v741 c32_i32_538
  let c0_i32_546 : BitVec 32 := 0#32
  let c0_i32_547 : BitVec 32 := 0#32
  ![v742.toNat, 0, 0]
def k0_dev32 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_536 : BitVec 32 := 1#32
  let v740 : BitVec 32 := Scalar.addi v2 c1_i32_536
  let c0_i32_537 : BitVec 32 := 0#32
  let v741 : BitVec 32 := Scalar.addi v740 c0_i32_537
  let c32_i32_538 : BitVec 32 := 32#32
  let v742 : BitVec 32 := Scalar.remsi v741 c32_i32_538
  let c1_i32_542 : BitVec 32 := 1#32
  let v743 : BitVec 32 := Scalar.muli v742 c1_i32_542
  let v744 : BitVec 32 := Scalar.addi c0_i32_543 v743
  v744.toNat
def k0_dev33 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_548 : BitVec 32 := 1#32
  let v753 : BitVec 32 := Scalar.addi v2 c1_i32_548
  let c1_i32_549 : BitVec 32 := 1#32
  let v754 : BitVec 32 := Scalar.addi v753 c1_i32_549
  let c32_i32_550 : BitVec 32 := 32#32
  let v755 : BitVec 32 := Scalar.remsi v754 c32_i32_550
  let c1_i32_554 : BitVec 32 := 1#32
  let v756 : BitVec 32 := Scalar.muli v755 c1_i32_554
  let v757 : BitVec 32 := Scalar.addi c0_i32_555 v756
  v757.toNat
def k0_dev34 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_560 : BitVec 32 := 1#32
  let v766 : BitVec 32 := Scalar.addi v2 c1_i32_560
  let c2_i32_561 : BitVec 32 := 2#32
  let v767 : BitVec 32 := Scalar.addi v766 c2_i32_561
  let c32_i32_562 : BitVec 32 := 32#32
  let v768 : BitVec 32 := Scalar.remsi v767 c32_i32_562
  let c1_i32_566 : BitVec 32 := 1#32
  let v769 : BitVec 32 := Scalar.muli v768 c1_i32_566
  let v770 : BitVec 32 := Scalar.addi c0_i32_567 v769
  v770.toNat
def k0_dev35 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_572 : BitVec 32 := 1#32
  let v779 : BitVec 32 := Scalar.addi v2 c1_i32_572
  let c3_i32_573 : BitVec 32 := 3#32
  let v780 : BitVec 32 := Scalar.addi v779 c3_i32_573
  let c32_i32_574 : BitVec 32 := 32#32
  let v781 : BitVec 32 := Scalar.remsi v780 c32_i32_574
  let c1_i32_578 : BitVec 32 := 1#32
  let v782 : BitVec 32 := Scalar.muli v781 c1_i32_578
  let v783 : BitVec 32 := Scalar.addi c0_i32_579 v782
  v783.toNat
def k0_dev36 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_584 : BitVec 32 := 1#32
  let v792 : BitVec 32 := Scalar.addi v2 c1_i32_584
  let c4_i32_585 : BitVec 32 := 4#32
  let v793 : BitVec 32 := Scalar.addi v792 c4_i32_585
  let c32_i32_586 : BitVec 32 := 32#32
  let v794 : BitVec 32 := Scalar.remsi v793 c32_i32_586
  let c1_i32_590 : BitVec 32 := 1#32
  let v795 : BitVec 32 := Scalar.muli v794 c1_i32_590
  let v796 : BitVec 32 := Scalar.addi c0_i32_591 v795
  v796.toNat
def k0_dev37 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_596 : BitVec 32 := 1#32
  let v805 : BitVec 32 := Scalar.addi v2 c1_i32_596
  let c5_i32_597 : BitVec 32 := 5#32
  let v806 : BitVec 32 := Scalar.addi v805 c5_i32_597
  let c32_i32_598 : BitVec 32 := 32#32
  let v807 : BitVec 32 := Scalar.remsi v806 c32_i32_598
  let c1_i32_602 : BitVec 32 := 1#32
  let v808 : BitVec 32 := Scalar.muli v807 c1_i32_602
  let v809 : BitVec 32 := Scalar.addi c0_i32_603 v808
  v809.toNat
def k0_dev38 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_608 : BitVec 32 := 1#32
  let v818 : BitVec 32 := Scalar.addi v2 c1_i32_608
  let c6_i32_609 : BitVec 32 := 6#32
  let v819 : BitVec 32 := Scalar.addi v818 c6_i32_609
  let c32_i32_610 : BitVec 32 := 32#32
  let v820 : BitVec 32 := Scalar.remsi v819 c32_i32_610
  let c1_i32_614 : BitVec 32 := 1#32
  let v821 : BitVec 32 := Scalar.muli v820 c1_i32_614
  let v822 : BitVec 32 := Scalar.addi c0_i32_615 v821
  v822.toNat
def k0_dev39 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_620 : BitVec 32 := 1#32
  let v831 : BitVec 32 := Scalar.addi v2 c1_i32_620
  let c7_i32_621 : BitVec 32 := 7#32
  let v832 : BitVec 32 := Scalar.addi v831 c7_i32_621
  let c32_i32_622 : BitVec 32 := 32#32
  let v833 : BitVec 32 := Scalar.remsi v832 c32_i32_622
  let c1_i32_626 : BitVec 32 := 1#32
  let v834 : BitVec 32 := Scalar.muli v833 c1_i32_626
  let v835 : BitVec 32 := Scalar.addi c0_i32_627 v834
  v835.toNat
def k0_dev40 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_632 : BitVec 32 := 1#32
  let v844 : BitVec 32 := Scalar.addi v2 c1_i32_632
  let c8_i32_633 : BitVec 32 := 8#32
  let v845 : BitVec 32 := Scalar.addi v844 c8_i32_633
  let c32_i32_634 : BitVec 32 := 32#32
  let v846 : BitVec 32 := Scalar.remsi v845 c32_i32_634
  let c1_i32_638 : BitVec 32 := 1#32
  let v847 : BitVec 32 := Scalar.muli v846 c1_i32_638
  let v848 : BitVec 32 := Scalar.addi c0_i32_639 v847
  v848.toNat
def k0_dev41 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_644 : BitVec 32 := 1#32
  let v857 : BitVec 32 := Scalar.addi v2 c1_i32_644
  let c9_i32_645 : BitVec 32 := 9#32
  let v858 : BitVec 32 := Scalar.addi v857 c9_i32_645
  let c32_i32_646 : BitVec 32 := 32#32
  let v859 : BitVec 32 := Scalar.remsi v858 c32_i32_646
  let c1_i32_650 : BitVec 32 := 1#32
  let v860 : BitVec 32 := Scalar.muli v859 c1_i32_650
  let v861 : BitVec 32 := Scalar.addi c0_i32_651 v860
  v861.toNat
def k0_dev42 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_656 : BitVec 32 := 1#32
  let v870 : BitVec 32 := Scalar.addi v2 c1_i32_656
  let c10_i32_657 : BitVec 32 := 10#32
  let v871 : BitVec 32 := Scalar.addi v870 c10_i32_657
  let c32_i32_658 : BitVec 32 := 32#32
  let v872 : BitVec 32 := Scalar.remsi v871 c32_i32_658
  let c1_i32_662 : BitVec 32 := 1#32
  let v873 : BitVec 32 := Scalar.muli v872 c1_i32_662
  let v874 : BitVec 32 := Scalar.addi c0_i32_663 v873
  v874.toNat
def k0_dev43 (d0 : Dev nD) : Nat :=
  let c0_i32_675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_668 : BitVec 32 := 1#32
  let v883 : BitVec 32 := Scalar.addi v2 c1_i32_668
  let c11_i32_669 : BitVec 32 := 11#32
  let v884 : BitVec 32 := Scalar.addi v883 c11_i32_669
  let c32_i32_670 : BitVec 32 := 32#32
  let v885 : BitVec 32 := Scalar.remsi v884 c32_i32_670
  let c1_i32_674 : BitVec 32 := 1#32
  let v886 : BitVec 32 := Scalar.muli v885 c1_i32_674
  let v887 : BitVec 32 := Scalar.addi c0_i32_675 v886
  v887.toNat
def k0_dev44 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_680 : BitVec 32 := 1#32
  let v896 : BitVec 32 := Scalar.addi v2 c1_i32_680
  let c12_i32_681 : BitVec 32 := 12#32
  let v897 : BitVec 32 := Scalar.addi v896 c12_i32_681
  let c32_i32_682 : BitVec 32 := 32#32
  let v898 : BitVec 32 := Scalar.remsi v897 c32_i32_682
  let c1_i32_686 : BitVec 32 := 1#32
  let v899 : BitVec 32 := Scalar.muli v898 c1_i32_686
  let v900 : BitVec 32 := Scalar.addi c0_i32_687 v899
  v900.toNat
def k0_dev45 (d0 : Dev nD) : Nat :=
  let c0_i32_699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_692 : BitVec 32 := 1#32
  let v909 : BitVec 32 := Scalar.addi v2 c1_i32_692
  let c13_i32_693 : BitVec 32 := 13#32
  let v910 : BitVec 32 := Scalar.addi v909 c13_i32_693
  let c32_i32_694 : BitVec 32 := 32#32
  let v911 : BitVec 32 := Scalar.remsi v910 c32_i32_694
  let c1_i32_698 : BitVec 32 := 1#32
  let v912 : BitVec 32 := Scalar.muli v911 c1_i32_698
  let v913 : BitVec 32 := Scalar.addi c0_i32_699 v912
  v913.toNat
def k0_dev46 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_704 : BitVec 32 := 1#32
  let v922 : BitVec 32 := Scalar.addi v2 c1_i32_704
  let c14_i32_705 : BitVec 32 := 14#32
  let v923 : BitVec 32 := Scalar.addi v922 c14_i32_705
  let c32_i32_706 : BitVec 32 := 32#32
  let v924 : BitVec 32 := Scalar.remsi v923 c32_i32_706
  let c1_i32_710 : BitVec 32 := 1#32
  let v925 : BitVec 32 := Scalar.muli v924 c1_i32_710
  let v926 : BitVec 32 := Scalar.addi c0_i32_711 v925
  v926.toNat
def k0_dev47 (d0 : Dev nD) : Nat :=
  let c0_i32_723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_716 : BitVec 32 := 1#32
  let v935 : BitVec 32 := Scalar.addi v2 c1_i32_716
  let c15_i32_717 : BitVec 32 := 15#32
  let v936 : BitVec 32 := Scalar.addi v935 c15_i32_717
  let c32_i32_718 : BitVec 32 := 32#32
  let v937 : BitVec 32 := Scalar.remsi v936 c32_i32_718
  let c1_i32_722 : BitVec 32 := 1#32
  let v938 : BitVec 32 := Scalar.muli v937 c1_i32_722
  let v939 : BitVec 32 := Scalar.addi c0_i32_723 v938
  v939.toNat
def k0_dev48 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_728 : BitVec 32 := 1#32
  let v948 : BitVec 32 := Scalar.addi v2 c1_i32_728
  let c16_i32_729 : BitVec 32 := 16#32
  let v949 : BitVec 32 := Scalar.addi v948 c16_i32_729
  let c32_i32_730 : BitVec 32 := 32#32
  let v950 : BitVec 32 := Scalar.remsi v949 c32_i32_730
  let c1_i32_734 : BitVec 32 := 1#32
  let v951 : BitVec 32 := Scalar.muli v950 c1_i32_734
  let v952 : BitVec 32 := Scalar.addi c0_i32_735 v951
  v952.toNat
def k0_dev49 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_740 : BitVec 32 := 1#32
  let v961 : BitVec 32 := Scalar.addi v2 c1_i32_740
  let c17_i32_741 : BitVec 32 := 17#32
  let v962 : BitVec 32 := Scalar.addi v961 c17_i32_741
  let c32_i32_742 : BitVec 32 := 32#32
  let v963 : BitVec 32 := Scalar.remsi v962 c32_i32_742
  let c1_i32_746 : BitVec 32 := 1#32
  let v964 : BitVec 32 := Scalar.muli v963 c1_i32_746
  let v965 : BitVec 32 := Scalar.addi c0_i32_747 v964
  v965.toNat
def k0_dev50 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_752 : BitVec 32 := 1#32
  let v974 : BitVec 32 := Scalar.addi v2 c1_i32_752
  let c18_i32_753 : BitVec 32 := 18#32
  let v975 : BitVec 32 := Scalar.addi v974 c18_i32_753
  let c32_i32_754 : BitVec 32 := 32#32
  let v976 : BitVec 32 := Scalar.remsi v975 c32_i32_754
  let c1_i32_758 : BitVec 32 := 1#32
  let v977 : BitVec 32 := Scalar.muli v976 c1_i32_758
  let v978 : BitVec 32 := Scalar.addi c0_i32_759 v977
  v978.toNat
def k0_dev51 (d0 : Dev nD) : Nat :=
  let c0_i32_771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_764 : BitVec 32 := 1#32
  let v987 : BitVec 32 := Scalar.addi v2 c1_i32_764
  let c19_i32_765 : BitVec 32 := 19#32
  let v988 : BitVec 32 := Scalar.addi v987 c19_i32_765
  let c32_i32_766 : BitVec 32 := 32#32
  let v989 : BitVec 32 := Scalar.remsi v988 c32_i32_766
  let c1_i32_770 : BitVec 32 := 1#32
  let v990 : BitVec 32 := Scalar.muli v989 c1_i32_770
  let v991 : BitVec 32 := Scalar.addi c0_i32_771 v990
  v991.toNat
def k0_dev52 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_776 : BitVec 32 := 1#32
  let v1000 : BitVec 32 := Scalar.addi v2 c1_i32_776
  let c20_i32_777 : BitVec 32 := 20#32
  let v1001 : BitVec 32 := Scalar.addi v1000 c20_i32_777
  let c32_i32_778 : BitVec 32 := 32#32
  let v1002 : BitVec 32 := Scalar.remsi v1001 c32_i32_778
  let c1_i32_782 : BitVec 32 := 1#32
  let v1003 : BitVec 32 := Scalar.muli v1002 c1_i32_782
  let v1004 : BitVec 32 := Scalar.addi c0_i32_783 v1003
  v1004.toNat
def k0_dev53 (d0 : Dev nD) : Nat :=
  let c0_i32_795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_788 : BitVec 32 := 1#32
  let v1013 : BitVec 32 := Scalar.addi v2 c1_i32_788
  let c21_i32_789 : BitVec 32 := 21#32
  let v1014 : BitVec 32 := Scalar.addi v1013 c21_i32_789
  let c32_i32_790 : BitVec 32 := 32#32
  let v1015 : BitVec 32 := Scalar.remsi v1014 c32_i32_790
  let c1_i32_794 : BitVec 32 := 1#32
  let v1016 : BitVec 32 := Scalar.muli v1015 c1_i32_794
  let v1017 : BitVec 32 := Scalar.addi c0_i32_795 v1016
  v1017.toNat
def k0_dev54 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_800 : BitVec 32 := 1#32
  let v1026 : BitVec 32 := Scalar.addi v2 c1_i32_800
  let c22_i32_801 : BitVec 32 := 22#32
  let v1027 : BitVec 32 := Scalar.addi v1026 c22_i32_801
  let c32_i32_802 : BitVec 32 := 32#32
  let v1028 : BitVec 32 := Scalar.remsi v1027 c32_i32_802
  let c1_i32_806 : BitVec 32 := 1#32
  let v1029 : BitVec 32 := Scalar.muli v1028 c1_i32_806
  let v1030 : BitVec 32 := Scalar.addi c0_i32_807 v1029
  v1030.toNat
def k0_dev55 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_812 : BitVec 32 := 1#32
  let v1039 : BitVec 32 := Scalar.addi v2 c1_i32_812
  let c23_i32_813 : BitVec 32 := 23#32
  let v1040 : BitVec 32 := Scalar.addi v1039 c23_i32_813
  let c32_i32_814 : BitVec 32 := 32#32
  let v1041 : BitVec 32 := Scalar.remsi v1040 c32_i32_814
  let c1_i32_818 : BitVec 32 := 1#32
  let v1042 : BitVec 32 := Scalar.muli v1041 c1_i32_818
  let v1043 : BitVec 32 := Scalar.addi c0_i32_819 v1042
  v1043.toNat
def k0_dev56 (d0 : Dev nD) : Nat :=
  let c0_i32_831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_824 : BitVec 32 := 1#32
  let v1052 : BitVec 32 := Scalar.addi v2 c1_i32_824
  let c24_i32_825 : BitVec 32 := 24#32
  let v1053 : BitVec 32 := Scalar.addi v1052 c24_i32_825
  let c32_i32_826 : BitVec 32 := 32#32
  let v1054 : BitVec 32 := Scalar.remsi v1053 c32_i32_826
  let c1_i32_830 : BitVec 32 := 1#32
  let v1055 : BitVec 32 := Scalar.muli v1054 c1_i32_830
  let v1056 : BitVec 32 := Scalar.addi c0_i32_831 v1055
  v1056.toNat
def k0_dev57 (d0 : Dev nD) : Nat :=
  let c0_i32_843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_836 : BitVec 32 := 1#32
  let v1065 : BitVec 32 := Scalar.addi v2 c1_i32_836
  let c25_i32_837 : BitVec 32 := 25#32
  let v1066 : BitVec 32 := Scalar.addi v1065 c25_i32_837
  let c32_i32_838 : BitVec 32 := 32#32
  let v1067 : BitVec 32 := Scalar.remsi v1066 c32_i32_838
  let c1_i32_842 : BitVec 32 := 1#32
  let v1068 : BitVec 32 := Scalar.muli v1067 c1_i32_842
  let v1069 : BitVec 32 := Scalar.addi c0_i32_843 v1068
  v1069.toNat
def k0_dev58 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_848 : BitVec 32 := 1#32
  let v1078 : BitVec 32 := Scalar.addi v2 c1_i32_848
  let c26_i32_849 : BitVec 32 := 26#32
  let v1079 : BitVec 32 := Scalar.addi v1078 c26_i32_849
  let c32_i32_850 : BitVec 32 := 32#32
  let v1080 : BitVec 32 := Scalar.remsi v1079 c32_i32_850
  let c1_i32_854 : BitVec 32 := 1#32
  let v1081 : BitVec 32 := Scalar.muli v1080 c1_i32_854
  let v1082 : BitVec 32 := Scalar.addi c0_i32_855 v1081
  v1082.toNat
def k0_dev59 (d0 : Dev nD) : Nat :=
  let c0_i32_867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_860 : BitVec 32 := 1#32
  let v1091 : BitVec 32 := Scalar.addi v2 c1_i32_860
  let c27_i32_861 : BitVec 32 := 27#32
  let v1092 : BitVec 32 := Scalar.addi v1091 c27_i32_861
  let c32_i32_862 : BitVec 32 := 32#32
  let v1093 : BitVec 32 := Scalar.remsi v1092 c32_i32_862
  let c1_i32_866 : BitVec 32 := 1#32
  let v1094 : BitVec 32 := Scalar.muli v1093 c1_i32_866
  let v1095 : BitVec 32 := Scalar.addi c0_i32_867 v1094
  v1095.toNat
def k0_dev60 (d0 : Dev nD) : Nat :=
  let c0_i32_879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_872 : BitVec 32 := 1#32
  let v1104 : BitVec 32 := Scalar.addi v2 c1_i32_872
  let c28_i32_873 : BitVec 32 := 28#32
  let v1105 : BitVec 32 := Scalar.addi v1104 c28_i32_873
  let c32_i32_874 : BitVec 32 := 32#32
  let v1106 : BitVec 32 := Scalar.remsi v1105 c32_i32_874
  let c1_i32_878 : BitVec 32 := 1#32
  let v1107 : BitVec 32 := Scalar.muli v1106 c1_i32_878
  let v1108 : BitVec 32 := Scalar.addi c0_i32_879 v1107
  v1108.toNat
def k0_dev61 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_884 : BitVec 32 := 1#32
  let v1117 : BitVec 32 := Scalar.addi v2 c1_i32_884
  let c29_i32_885 : BitVec 32 := 29#32
  let v1118 : BitVec 32 := Scalar.addi v1117 c29_i32_885
  let c32_i32_886 : BitVec 32 := 32#32
  let v1119 : BitVec 32 := Scalar.remsi v1118 c32_i32_886
  let c1_i32_890 : BitVec 32 := 1#32
  let v1120 : BitVec 32 := Scalar.muli v1119 c1_i32_890
  let v1121 : BitVec 32 := Scalar.addi c0_i32_891 v1120
  v1121.toNat
def k0_dev62 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_896 : BitVec 32 := 1#32
  let v1130 : BitVec 32 := Scalar.addi v2 c1_i32_896
  let c30_i32_897 : BitVec 32 := 30#32
  let v1131 : BitVec 32 := Scalar.addi v1130 c30_i32_897
  let c32_i32_898 : BitVec 32 := 32#32
  let v1132 : BitVec 32 := Scalar.remsi v1131 c32_i32_898
  let c1_i32_902 : BitVec 32 := 1#32
  let v1133 : BitVec 32 := Scalar.muli v1132 c1_i32_902
  let v1134 : BitVec 32 := Scalar.addi c0_i32_903 v1133
  v1134.toNat
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1391 : Index := Scalar.indexCast v2
  let c0_1187 : Index := 0#32
  let c0_1188 : Index := 0#32
  ![v1391.toNat, 0, 0]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1207 : BitVec 32 := 0#32
  let c0_i32_1208 : BitVec 32 := 0#32
  ![v2.toNat, 0, 0]
def k0_dev63 (d0 : Dev nD) : Nat :=
  let c0_i32_1204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1197 : BitVec 32 := 1#32
  let v1408 : BitVec 32 := Scalar.addi v2 c1_i32_1197
  let c0_i32_1198 : BitVec 32 := 0#32
  let v1409 : BitVec 32 := Scalar.addi v1408 c0_i32_1198
  let c32_i32_1199 : BitVec 32 := 32#32
  let v1410 : BitVec 32 := Scalar.remsi v1409 c32_i32_1199
  let c1_i32_1203 : BitVec 32 := 1#32
  let v1411 : BitVec 32 := Scalar.muli v1410 c1_i32_1203
  let v1412 : BitVec 32 := Scalar.addi c0_i32_1204 v1411
  v1412.toNat
def k0_dev64 (d0 : Dev nD) : Nat :=
  let c0_i32_1216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1209 : BitVec 32 := 1#32
  let v1421 : BitVec 32 := Scalar.addi v2 c1_i32_1209
  let c1_i32_1210 : BitVec 32 := 1#32
  let v1422 : BitVec 32 := Scalar.addi v1421 c1_i32_1210
  let c32_i32_1211 : BitVec 32 := 32#32
  let v1423 : BitVec 32 := Scalar.remsi v1422 c32_i32_1211
  let c1_i32_1215 : BitVec 32 := 1#32
  let v1424 : BitVec 32 := Scalar.muli v1423 c1_i32_1215
  let v1425 : BitVec 32 := Scalar.addi c0_i32_1216 v1424
  v1425.toNat
def k0_dev65 (d0 : Dev nD) : Nat :=
  let c0_i32_1228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1221 : BitVec 32 := 1#32
  let v1434 : BitVec 32 := Scalar.addi v2 c1_i32_1221
  let c2_i32_1222 : BitVec 32 := 2#32
  let v1435 : BitVec 32 := Scalar.addi v1434 c2_i32_1222
  let c32_i32_1223 : BitVec 32 := 32#32
  let v1436 : BitVec 32 := Scalar.remsi v1435 c32_i32_1223
  let c1_i32_1227 : BitVec 32 := 1#32
  let v1437 : BitVec 32 := Scalar.muli v1436 c1_i32_1227
  let v1438 : BitVec 32 := Scalar.addi c0_i32_1228 v1437
  v1438.toNat
def k0_dev66 (d0 : Dev nD) : Nat :=
  let c0_i32_1240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1233 : BitVec 32 := 1#32
  let v1447 : BitVec 32 := Scalar.addi v2 c1_i32_1233
  let c3_i32_1234 : BitVec 32 := 3#32
  let v1448 : BitVec 32 := Scalar.addi v1447 c3_i32_1234
  let c32_i32_1235 : BitVec 32 := 32#32
  let v1449 : BitVec 32 := Scalar.remsi v1448 c32_i32_1235
  let c1_i32_1239 : BitVec 32 := 1#32
  let v1450 : BitVec 32 := Scalar.muli v1449 c1_i32_1239
  let v1451 : BitVec 32 := Scalar.addi c0_i32_1240 v1450
  v1451.toNat
def k0_dev67 (d0 : Dev nD) : Nat :=
  let c0_i32_1252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1245 : BitVec 32 := 1#32
  let v1460 : BitVec 32 := Scalar.addi v2 c1_i32_1245
  let c4_i32_1246 : BitVec 32 := 4#32
  let v1461 : BitVec 32 := Scalar.addi v1460 c4_i32_1246
  let c32_i32_1247 : BitVec 32 := 32#32
  let v1462 : BitVec 32 := Scalar.remsi v1461 c32_i32_1247
  let c1_i32_1251 : BitVec 32 := 1#32
  let v1463 : BitVec 32 := Scalar.muli v1462 c1_i32_1251
  let v1464 : BitVec 32 := Scalar.addi c0_i32_1252 v1463
  v1464.toNat
def k0_dev68 (d0 : Dev nD) : Nat :=
  let c0_i32_1264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1257 : BitVec 32 := 1#32
  let v1473 : BitVec 32 := Scalar.addi v2 c1_i32_1257
  let c5_i32_1258 : BitVec 32 := 5#32
  let v1474 : BitVec 32 := Scalar.addi v1473 c5_i32_1258
  let c32_i32_1259 : BitVec 32 := 32#32
  let v1475 : BitVec 32 := Scalar.remsi v1474 c32_i32_1259
  let c1_i32_1263 : BitVec 32 := 1#32
  let v1476 : BitVec 32 := Scalar.muli v1475 c1_i32_1263
  let v1477 : BitVec 32 := Scalar.addi c0_i32_1264 v1476
  v1477.toNat
def k0_dev69 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1269 : BitVec 32 := 1#32
  let v1486 : BitVec 32 := Scalar.addi v2 c1_i32_1269
  let c6_i32_1270 : BitVec 32 := 6#32
  let v1487 : BitVec 32 := Scalar.addi v1486 c6_i32_1270
  let c32_i32_1271 : BitVec 32 := 32#32
  let v1488 : BitVec 32 := Scalar.remsi v1487 c32_i32_1271
  let c1_i32_1275 : BitVec 32 := 1#32
  let v1489 : BitVec 32 := Scalar.muli v1488 c1_i32_1275
  let v1490 : BitVec 32 := Scalar.addi c0_i32_1276 v1489
  v1490.toNat
def k0_dev70 (d0 : Dev nD) : Nat :=
  let c0_i32_1288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1281 : BitVec 32 := 1#32
  let v1499 : BitVec 32 := Scalar.addi v2 c1_i32_1281
  let c7_i32_1282 : BitVec 32 := 7#32
  let v1500 : BitVec 32 := Scalar.addi v1499 c7_i32_1282
  let c32_i32_1283 : BitVec 32 := 32#32
  let v1501 : BitVec 32 := Scalar.remsi v1500 c32_i32_1283
  let c1_i32_1287 : BitVec 32 := 1#32
  let v1502 : BitVec 32 := Scalar.muli v1501 c1_i32_1287
  let v1503 : BitVec 32 := Scalar.addi c0_i32_1288 v1502
  v1503.toNat
def k0_dev71 (d0 : Dev nD) : Nat :=
  let c0_i32_1300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1293 : BitVec 32 := 1#32
  let v1512 : BitVec 32 := Scalar.addi v2 c1_i32_1293
  let c8_i32_1294 : BitVec 32 := 8#32
  let v1513 : BitVec 32 := Scalar.addi v1512 c8_i32_1294
  let c32_i32_1295 : BitVec 32 := 32#32
  let v1514 : BitVec 32 := Scalar.remsi v1513 c32_i32_1295
  let c1_i32_1299 : BitVec 32 := 1#32
  let v1515 : BitVec 32 := Scalar.muli v1514 c1_i32_1299
  let v1516 : BitVec 32 := Scalar.addi c0_i32_1300 v1515
  v1516.toNat
def k0_dev72 (d0 : Dev nD) : Nat :=
  let c0_i32_1312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1305 : BitVec 32 := 1#32
  let v1525 : BitVec 32 := Scalar.addi v2 c1_i32_1305
  let c9_i32_1306 : BitVec 32 := 9#32
  let v1526 : BitVec 32 := Scalar.addi v1525 c9_i32_1306
  let c32_i32_1307 : BitVec 32 := 32#32
  let v1527 : BitVec 32 := Scalar.remsi v1526 c32_i32_1307
  let c1_i32_1311 : BitVec 32 := 1#32
  let v1528 : BitVec 32 := Scalar.muli v1527 c1_i32_1311
  let v1529 : BitVec 32 := Scalar.addi c0_i32_1312 v1528
  v1529.toNat
def k0_dev73 (d0 : Dev nD) : Nat :=
  let c0_i32_1324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1317 : BitVec 32 := 1#32
  let v1538 : BitVec 32 := Scalar.addi v2 c1_i32_1317
  let c10_i32_1318 : BitVec 32 := 10#32
  let v1539 : BitVec 32 := Scalar.addi v1538 c10_i32_1318
  let c32_i32_1319 : BitVec 32 := 32#32
  let v1540 : BitVec 32 := Scalar.remsi v1539 c32_i32_1319
  let c1_i32_1323 : BitVec 32 := 1#32
  let v1541 : BitVec 32 := Scalar.muli v1540 c1_i32_1323
  let v1542 : BitVec 32 := Scalar.addi c0_i32_1324 v1541
  v1542.toNat
def k0_dev74 (d0 : Dev nD) : Nat :=
  let c0_i32_1336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1329 : BitVec 32 := 1#32
  let v1551 : BitVec 32 := Scalar.addi v2 c1_i32_1329
  let c11_i32_1330 : BitVec 32 := 11#32
  let v1552 : BitVec 32 := Scalar.addi v1551 c11_i32_1330
  let c32_i32_1331 : BitVec 32 := 32#32
  let v1553 : BitVec 32 := Scalar.remsi v1552 c32_i32_1331
  let c1_i32_1335 : BitVec 32 := 1#32
  let v1554 : BitVec 32 := Scalar.muli v1553 c1_i32_1335
  let v1555 : BitVec 32 := Scalar.addi c0_i32_1336 v1554
  v1555.toNat
def k0_dev75 (d0 : Dev nD) : Nat :=
  let c0_i32_1348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1341 : BitVec 32 := 1#32
  let v1564 : BitVec 32 := Scalar.addi v2 c1_i32_1341
  let c12_i32_1342 : BitVec 32 := 12#32
  let v1565 : BitVec 32 := Scalar.addi v1564 c12_i32_1342
  let c32_i32_1343 : BitVec 32 := 32#32
  let v1566 : BitVec 32 := Scalar.remsi v1565 c32_i32_1343
  let c1_i32_1347 : BitVec 32 := 1#32
  let v1567 : BitVec 32 := Scalar.muli v1566 c1_i32_1347
  let v1568 : BitVec 32 := Scalar.addi c0_i32_1348 v1567
  v1568.toNat
def k0_dev76 (d0 : Dev nD) : Nat :=
  let c0_i32_1360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1353 : BitVec 32 := 1#32
  let v1577 : BitVec 32 := Scalar.addi v2 c1_i32_1353
  let c13_i32_1354 : BitVec 32 := 13#32
  let v1578 : BitVec 32 := Scalar.addi v1577 c13_i32_1354
  let c32_i32_1355 : BitVec 32 := 32#32
  let v1579 : BitVec 32 := Scalar.remsi v1578 c32_i32_1355
  let c1_i32_1359 : BitVec 32 := 1#32
  let v1580 : BitVec 32 := Scalar.muli v1579 c1_i32_1359
  let v1581 : BitVec 32 := Scalar.addi c0_i32_1360 v1580
  v1581.toNat
def k0_dev77 (d0 : Dev nD) : Nat :=
  let c0_i32_1372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1365 : BitVec 32 := 1#32
  let v1590 : BitVec 32 := Scalar.addi v2 c1_i32_1365
  let c14_i32_1366 : BitVec 32 := 14#32
  let v1591 : BitVec 32 := Scalar.addi v1590 c14_i32_1366
  let c32_i32_1367 : BitVec 32 := 32#32
  let v1592 : BitVec 32 := Scalar.remsi v1591 c32_i32_1367
  let c1_i32_1371 : BitVec 32 := 1#32
  let v1593 : BitVec 32 := Scalar.muli v1592 c1_i32_1371
  let v1594 : BitVec 32 := Scalar.addi c0_i32_1372 v1593
  v1594.toNat
def k0_dev78 (d0 : Dev nD) : Nat :=
  let c0_i32_1384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1377 : BitVec 32 := 1#32
  let v1603 : BitVec 32 := Scalar.addi v2 c1_i32_1377
  let c15_i32_1378 : BitVec 32 := 15#32
  let v1604 : BitVec 32 := Scalar.addi v1603 c15_i32_1378
  let c32_i32_1379 : BitVec 32 := 32#32
  let v1605 : BitVec 32 := Scalar.remsi v1604 c32_i32_1379
  let c1_i32_1383 : BitVec 32 := 1#32
  let v1606 : BitVec 32 := Scalar.muli v1605 c1_i32_1383
  let v1607 : BitVec 32 := Scalar.addi c0_i32_1384 v1606
  v1607.toNat
def k0_dev79 (d0 : Dev nD) : Nat :=
  let c0_i32_1396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1389 : BitVec 32 := 1#32
  let v1616 : BitVec 32 := Scalar.addi v2 c1_i32_1389
  let c16_i32_1390 : BitVec 32 := 16#32
  let v1617 : BitVec 32 := Scalar.addi v1616 c16_i32_1390
  let c32_i32_1391 : BitVec 32 := 32#32
  let v1618 : BitVec 32 := Scalar.remsi v1617 c32_i32_1391
  let c1_i32_1395 : BitVec 32 := 1#32
  let v1619 : BitVec 32 := Scalar.muli v1618 c1_i32_1395
  let v1620 : BitVec 32 := Scalar.addi c0_i32_1396 v1619
  v1620.toNat
def k0_dev80 (d0 : Dev nD) : Nat :=
  let c0_i32_1408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1401 : BitVec 32 := 1#32
  let v1629 : BitVec 32 := Scalar.addi v2 c1_i32_1401
  let c17_i32_1402 : BitVec 32 := 17#32
  let v1630 : BitVec 32 := Scalar.addi v1629 c17_i32_1402
  let c32_i32_1403 : BitVec 32 := 32#32
  let v1631 : BitVec 32 := Scalar.remsi v1630 c32_i32_1403
  let c1_i32_1407 : BitVec 32 := 1#32
  let v1632 : BitVec 32 := Scalar.muli v1631 c1_i32_1407
  let v1633 : BitVec 32 := Scalar.addi c0_i32_1408 v1632
  v1633.toNat
def k0_dev81 (d0 : Dev nD) : Nat :=
  let c0_i32_1420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1413 : BitVec 32 := 1#32
  let v1642 : BitVec 32 := Scalar.addi v2 c1_i32_1413
  let c18_i32_1414 : BitVec 32 := 18#32
  let v1643 : BitVec 32 := Scalar.addi v1642 c18_i32_1414
  let c32_i32_1415 : BitVec 32 := 32#32
  let v1644 : BitVec 32 := Scalar.remsi v1643 c32_i32_1415
  let c1_i32_1419 : BitVec 32 := 1#32
  let v1645 : BitVec 32 := Scalar.muli v1644 c1_i32_1419
  let v1646 : BitVec 32 := Scalar.addi c0_i32_1420 v1645
  v1646.toNat
def k0_dev82 (d0 : Dev nD) : Nat :=
  let c0_i32_1432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1425 : BitVec 32 := 1#32
  let v1655 : BitVec 32 := Scalar.addi v2 c1_i32_1425
  let c19_i32_1426 : BitVec 32 := 19#32
  let v1656 : BitVec 32 := Scalar.addi v1655 c19_i32_1426
  let c32_i32_1427 : BitVec 32 := 32#32
  let v1657 : BitVec 32 := Scalar.remsi v1656 c32_i32_1427
  let c1_i32_1431 : BitVec 32 := 1#32
  let v1658 : BitVec 32 := Scalar.muli v1657 c1_i32_1431
  let v1659 : BitVec 32 := Scalar.addi c0_i32_1432 v1658
  v1659.toNat
def k0_dev83 (d0 : Dev nD) : Nat :=
  let c0_i32_1444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1437 : BitVec 32 := 1#32
  let v1668 : BitVec 32 := Scalar.addi v2 c1_i32_1437
  let c20_i32_1438 : BitVec 32 := 20#32
  let v1669 : BitVec 32 := Scalar.addi v1668 c20_i32_1438
  let c32_i32_1439 : BitVec 32 := 32#32
  let v1670 : BitVec 32 := Scalar.remsi v1669 c32_i32_1439
  let c1_i32_1443 : BitVec 32 := 1#32
  let v1671 : BitVec 32 := Scalar.muli v1670 c1_i32_1443
  let v1672 : BitVec 32 := Scalar.addi c0_i32_1444 v1671
  v1672.toNat
def k0_dev84 (d0 : Dev nD) : Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1449 : BitVec 32 := 1#32
  let v1681 : BitVec 32 := Scalar.addi v2 c1_i32_1449
  let c21_i32_1450 : BitVec 32 := 21#32
  let v1682 : BitVec 32 := Scalar.addi v1681 c21_i32_1450
  let c32_i32_1451 : BitVec 32 := 32#32
  let v1683 : BitVec 32 := Scalar.remsi v1682 c32_i32_1451
  let c1_i32_1455 : BitVec 32 := 1#32
  let v1684 : BitVec 32 := Scalar.muli v1683 c1_i32_1455
  let v1685 : BitVec 32 := Scalar.addi c0_i32_1456 v1684
  v1685.toNat
def k0_dev85 (d0 : Dev nD) : Nat :=
  let c0_i32_1468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1461 : BitVec 32 := 1#32
  let v1694 : BitVec 32 := Scalar.addi v2 c1_i32_1461
  let c22_i32_1462 : BitVec 32 := 22#32
  let v1695 : BitVec 32 := Scalar.addi v1694 c22_i32_1462
  let c32_i32_1463 : BitVec 32 := 32#32
  let v1696 : BitVec 32 := Scalar.remsi v1695 c32_i32_1463
  let c1_i32_1467 : BitVec 32 := 1#32
  let v1697 : BitVec 32 := Scalar.muli v1696 c1_i32_1467
  let v1698 : BitVec 32 := Scalar.addi c0_i32_1468 v1697
  v1698.toNat
def k0_dev86 (d0 : Dev nD) : Nat :=
  let c0_i32_1480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1473 : BitVec 32 := 1#32
  let v1707 : BitVec 32 := Scalar.addi v2 c1_i32_1473
  let c23_i32_1474 : BitVec 32 := 23#32
  let v1708 : BitVec 32 := Scalar.addi v1707 c23_i32_1474
  let c32_i32_1475 : BitVec 32 := 32#32
  let v1709 : BitVec 32 := Scalar.remsi v1708 c32_i32_1475
  let c1_i32_1479 : BitVec 32 := 1#32
  let v1710 : BitVec 32 := Scalar.muli v1709 c1_i32_1479
  let v1711 : BitVec 32 := Scalar.addi c0_i32_1480 v1710
  v1711.toNat
def k0_dev87 (d0 : Dev nD) : Nat :=
  let c0_i32_1492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1485 : BitVec 32 := 1#32
  let v1720 : BitVec 32 := Scalar.addi v2 c1_i32_1485
  let c24_i32_1486 : BitVec 32 := 24#32
  let v1721 : BitVec 32 := Scalar.addi v1720 c24_i32_1486
  let c32_i32_1487 : BitVec 32 := 32#32
  let v1722 : BitVec 32 := Scalar.remsi v1721 c32_i32_1487
  let c1_i32_1491 : BitVec 32 := 1#32
  let v1723 : BitVec 32 := Scalar.muli v1722 c1_i32_1491
  let v1724 : BitVec 32 := Scalar.addi c0_i32_1492 v1723
  v1724.toNat
def k0_dev88 (d0 : Dev nD) : Nat :=
  let c0_i32_1504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1497 : BitVec 32 := 1#32
  let v1733 : BitVec 32 := Scalar.addi v2 c1_i32_1497
  let c25_i32_1498 : BitVec 32 := 25#32
  let v1734 : BitVec 32 := Scalar.addi v1733 c25_i32_1498
  let c32_i32_1499 : BitVec 32 := 32#32
  let v1735 : BitVec 32 := Scalar.remsi v1734 c32_i32_1499
  let c1_i32_1503 : BitVec 32 := 1#32
  let v1736 : BitVec 32 := Scalar.muli v1735 c1_i32_1503
  let v1737 : BitVec 32 := Scalar.addi c0_i32_1504 v1736
  v1737.toNat
def k0_dev89 (d0 : Dev nD) : Nat :=
  let c0_i32_1516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1509 : BitVec 32 := 1#32
  let v1746 : BitVec 32 := Scalar.addi v2 c1_i32_1509
  let c26_i32_1510 : BitVec 32 := 26#32
  let v1747 : BitVec 32 := Scalar.addi v1746 c26_i32_1510
  let c32_i32_1511 : BitVec 32 := 32#32
  let v1748 : BitVec 32 := Scalar.remsi v1747 c32_i32_1511
  let c1_i32_1515 : BitVec 32 := 1#32
  let v1749 : BitVec 32 := Scalar.muli v1748 c1_i32_1515
  let v1750 : BitVec 32 := Scalar.addi c0_i32_1516 v1749
  v1750.toNat
def k0_dev90 (d0 : Dev nD) : Nat :=
  let c0_i32_1528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1521 : BitVec 32 := 1#32
  let v1759 : BitVec 32 := Scalar.addi v2 c1_i32_1521
  let c27_i32_1522 : BitVec 32 := 27#32
  let v1760 : BitVec 32 := Scalar.addi v1759 c27_i32_1522
  let c32_i32_1523 : BitVec 32 := 32#32
  let v1761 : BitVec 32 := Scalar.remsi v1760 c32_i32_1523
  let c1_i32_1527 : BitVec 32 := 1#32
  let v1762 : BitVec 32 := Scalar.muli v1761 c1_i32_1527
  let v1763 : BitVec 32 := Scalar.addi c0_i32_1528 v1762
  v1763.toNat
def k0_dev91 (d0 : Dev nD) : Nat :=
  let c0_i32_1540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1533 : BitVec 32 := 1#32
  let v1772 : BitVec 32 := Scalar.addi v2 c1_i32_1533
  let c28_i32_1534 : BitVec 32 := 28#32
  let v1773 : BitVec 32 := Scalar.addi v1772 c28_i32_1534
  let c32_i32_1535 : BitVec 32 := 32#32
  let v1774 : BitVec 32 := Scalar.remsi v1773 c32_i32_1535
  let c1_i32_1539 : BitVec 32 := 1#32
  let v1775 : BitVec 32 := Scalar.muli v1774 c1_i32_1539
  let v1776 : BitVec 32 := Scalar.addi c0_i32_1540 v1775
  v1776.toNat
def k0_dev92 (d0 : Dev nD) : Nat :=
  let c0_i32_1552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1545 : BitVec 32 := 1#32
  let v1785 : BitVec 32 := Scalar.addi v2 c1_i32_1545
  let c29_i32_1546 : BitVec 32 := 29#32
  let v1786 : BitVec 32 := Scalar.addi v1785 c29_i32_1546
  let c32_i32_1547 : BitVec 32 := 32#32
  let v1787 : BitVec 32 := Scalar.remsi v1786 c32_i32_1547
  let c1_i32_1551 : BitVec 32 := 1#32
  let v1788 : BitVec 32 := Scalar.muli v1787 c1_i32_1551
  let v1789 : BitVec 32 := Scalar.addi c0_i32_1552 v1788
  v1789.toNat
def k0_dev93 (d0 : Dev nD) : Nat :=
  let c0_i32_1564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1557 : BitVec 32 := 1#32
  let v1798 : BitVec 32 := Scalar.addi v2 c1_i32_1557
  let c30_i32_1558 : BitVec 32 := 30#32
  let v1799 : BitVec 32 := Scalar.addi v1798 c30_i32_1558
  let c32_i32_1559 : BitVec 32 := 32#32
  let v1800 : BitVec 32 := Scalar.remsi v1799 c32_i32_1559
  let c1_i32_1563 : BitVec 32 := 1#32
  let v1801 : BitVec 32 := Scalar.muli v1800 c1_i32_1563
  let v1802 : BitVec 32 := Scalar.addi c0_i32_1564 v1801
  v1802.toNat
def k0_off4 (d0 : Dev nD) (c0_i32_1579 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1578 : BitVec 32 := 1#32
  let v1819 : BitVec 32 := Scalar.addi v2 c1_i32_1578
  let v1820 : BitVec 32 := Scalar.addi v1819 c0_i32_1579
  let c32_i32_1580 : BitVec 32 := 32#32
  let v1821 : BitVec 32 := Scalar.remsi v1820 c32_i32_1580
  let v1825 : Index := Scalar.indexCast v1821
  let c0_1584 : Index := 0#32
  let c0_1585 : Index := 0#32
  ![v1825.toNat, 0, 0]
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 89
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x128x64, .f32⟩
  | .hbm, ⟨3, _⟩ => ⟨S2x256x128x64, .f32⟩
  | .hbm, ⟨4, _⟩ => ⟨S8192x512, .f32⟩
  | .hbm, ⟨5, _⟩ => ⟨S2x256x8192, .f32⟩
  | .hbm, ⟨6, _⟩ => ⟨S2x256x128x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S2x128x256x256, .f32⟩
  | .hbm, ⟨51, _⟩ => ⟨S_, .f32⟩
  | .hbm, ⟨52, _⟩ => ⟨S2x128x256x256, .f32⟩
  | .hbm, ⟨53, _⟩ => ⟨S2x128x256x256, .f32⟩
  | .hbm, ⟨54, _⟩ => ⟨S1x1x256x256, .i1⟩
  | .hbm, ⟨55, _⟩ => ⟨S_, .f32⟩
  | .hbm, ⟨56, _⟩ => ⟨S_, .f32⟩
  | .hbm, ⟨57, _⟩ => ⟨S2x128x256x256, .i1⟩
  | .hbm, ⟨58, _⟩ => ⟨S2x128x256x256, .f32⟩
  | .hbm, ⟨59, _⟩ => ⟨S2x128x256x256, .f32⟩
  | .hbm, ⟨60, _⟩ => ⟨S_, .f32⟩
  | .hbm, ⟨61, _⟩ => ⟨S2x128x256, .f32⟩
  | .hbm, ⟨62, _⟩ => ⟨S2x128x256x1, .f32⟩
  | .hbm, ⟨63, _⟩ => ⟨S2x128x256x256, .f32⟩
  | .hbm, ⟨64, _⟩ => ⟨S2x128x256x256, .f32⟩
  | .hbm, ⟨65, _⟩ => ⟨S2x128x256x256, .f32⟩
  | .hbm, ⟨66, _⟩ => ⟨S_, .i1⟩
  | .hbm, ⟨67, _⟩ => ⟨S256, .i1⟩
  | .hbm, ⟨68, _⟩ => ⟨S1x1x256x1, .i1⟩
  | .hbm, ⟨69, _⟩ => ⟨S_, .f32⟩
  | .hbm, ⟨70, _⟩ => ⟨S2x128x256, .f32⟩
  | .hbm, ⟨71, _⟩ => ⟨S2x128x256x1, .f32⟩
  | .hbm, ⟨72, _⟩ => ⟨S_, .f32⟩
  | .hbm, ⟨73, _⟩ => ⟨S_, .f32⟩
  | .hbm, ⟨74, _⟩ => ⟨S2x128x256x1, .i1⟩
  | .hbm, ⟨75, _⟩ => ⟨S2x128x256x1, .f32⟩
  | .hbm, ⟨76, _⟩ => ⟨S2x128x256x1, .f32⟩
  | .hbm, ⟨77, _⟩ => ⟨S2x128x256x256, .f32⟩
  | .hbm, ⟨78, _⟩ => ⟨S2x128x256x256, .f32⟩
  | .hbm, ⟨79, _⟩ => ⟨S1x1x256x1, .i1⟩
  | .hbm, ⟨80, _⟩ => ⟨S_, .f32⟩
  | .hbm, ⟨81, _⟩ => ⟨S_, .f32⟩
  | .hbm, ⟨82, _⟩ => ⟨S2x128x256x256, .i1⟩
  | .hbm, ⟨83, _⟩ => ⟨S2x128x256x256, .f32⟩
  | .hbm, ⟨84, _⟩ => ⟨S2x128x256x256, .f32⟩
  | .hbm, ⟨85, _⟩ => ⟨S2x128x64x256, .f32⟩
  | .hbm, ⟨86, _⟩ => ⟨S2x256x128x64, .f32⟩
  | .hbm, ⟨87, _⟩ => ⟨S2x256x8192, .f32⟩
  | .hbm, ⟨88, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Kernel.BodyEq.lean ====
module

public import proofs.«01_k».proof.Proof.Kernel.Body

/-! The printed body is the body told in stretches. -/

@[expose] public section

noncomputable section

namespace Cert.Kernel.Ring

open Idealize.ShloMosaic Idealize.ShloMosaic.TcCoe Idealize.SL.Sem
open Cert.Kernel Cert.Kernel.Gen

variable {F : FTy → Type} [FloatOps F]

/-- Two programs whose first effects agree and whose continuations agree. -/
theorem op_congr {α β : Type} {e e' : TpuEff nD τ sig (Elt F) Λ₀ .tc β} {k k' : β → P F α} (he : e = e') (h : ∀ x, k x = k' x) :
    (Prog.op e k : P F α) = Prog.op e' k' := by
  subst he
  exact congrArg _ (funext h)

set_option maxHeartbeats 0 in
/-- The printed body is the body in stretches. -/
theorem body_eq (t : Fin cfg0.N) : bodyAt0 (F := F) t = body := by
  repeat refine op_congr rfl fun _ => ?_
  rfl

end Cert.Kernel.Ring

end
-- ==== Proof.KernelIdeal.Body.lean ====
module

public import proofs.«01_k».proof.Proof.Gen.KernelIdeal.Skeleton
public import proofs.«01_k».proof.Proof.Gen.KernelIdeal.Points
public import proofs.«01_k».proof.Proof.Gen.KernelIdeal

/-! The kernel body told as a handful of stretches: the local prefetches, a loop of signals to the
other devices, the local computation, a loop of sends and a loop of receives for the reduction, the
reduction, a loop of sends and a loop of receives for the gather, and the closing waits. -/

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- Programs of one TensorCore of this kernel. -/
abbrev P (F : FTy → Type) (α : Type) := Prog (TpuEff nD τ sig (Elt F) Λ₀ .tc) α

/-- Run `f 0`, `f 1`, …, `f (n-1)` one after the other. -/
def loop : (n : ℕ) → (Fin n → P F PUnit) → P F PUnit
  | 0, _ => pure ⟨⟩
  | n + 1, f => do
    f 0
    loop n fun i => f i.succ

/-! ### Buffers, slices, semaphores and devices -/

/-- The buffer the reduction's chunks are sent from. -/
abbrev acc : Memref sig .tc .vmem S32x16x512 .bf16 := Memref.whole cc0_scratch0
/-- The buffer the reduction's chunks arrive in. -/
abbrev com1 : Memref sig .tc .vmem S31x16x512 .bf16 := Memref.whole cc0_scratch1
/-- The buffer the gathered chunks arrive in. -/
abbrev com2 : Memref sig .tc .vmem S31x16x512 .bf16 := Memref.whole cc0_scratch2
/-- The assembled result in fast memory. -/
abbrev outr : Memref sig .tc .vmem S32x16x512 .f32 := Memref.whole cc0_scratch10

/-- The device word of the peer at distance `o + 1`. -/
def peerN (d0 : Dev nD) (o : BitVec 32) : Nat :=
  let v0 : BitVec 32 := Dev.word d0
  let v1 : BitVec 32 := Scalar.divsi v0 1#32
  let v2 : BitVec 32 := Scalar.remsi v1 32#32
  let v30 : BitVec 32 := Scalar.addi v2 1#32
  let v31 : BitVec 32 := Scalar.addi v30 o
  let v32 : BitVec 32 := Scalar.remsi v31 32#32
  let v33 : BitVec 32 := Scalar.muli v32 1#32
  let v34 : BitVec 32 := Scalar.addi 0#32 v33
  v34.toNat

theorem peerN_lt : ∀ d0 : Dev nD, ∀ o : Fin 31, peerN d0 (BitVec.ofNat 32 o.val) < nD := by decide +kernel

/-- The peer at distance `o + 1`. -/
abbrev peer (d0 : Dev nD) (o : Fin 31) : Dev nD := ⟨peerN d0 (BitVec.ofNat 32 o.val), peerN_lt d0 o⟩

theorem slot_inb (t : Fin 31) : ∀ a, (![t.val, 0, 0] : Fin 3 → Nat) a + S1x16x512.size a ≤ S31x16x512.size a := by
  revert t; decide

theorem slot_words (t : Fin 31) : (Rect.unit (s := S31x16x512) ![t.val, 0, 0] S1x16x512.size (slot_inb t)).WholeWords (EltTy.packing .bf16) := by
  revert t; decide

/-- The slot a device's chunk for the peer at distance `o + 1` arrives in. -/
abbrev rev (o : Fin 31) : Fin 31 := ⟨30 - o.val, by omega⟩

/-- The rectangle of chunk `(d0 + o + 1) % 32`. -/
abbrev chunkR (d0 : Dev nD) (o : Fin 31) : Rect S32x16x512 := Rect.unit (s := S32x16x512) (k0_off1 d0 (BitVec.ofNat 32 o.val)) S1x16x512.size (k0_off1_inb d0 o)
/-- The same rectangle in the assembled result. -/
abbrev outR (d0 : Dev nD) (o : Fin 31) : Rect S32x16x512 := Rect.unit (s := S32x16x512) (k0_off4 d0 (BitVec.ofNat 32 o.val)) S1x16x512.size (k0_off4_inb d0 o)
/-- The rectangle of the device's own chunk, as it is loaded and stored. -/
abbrev meR (d0 : Dev nD) : Rect S32x16x512 := Rect.unit (s := S32x16x512) (k0_off2 d0) S1x16x512.size (k0_off2_inb d0)
/-- The rectangle of slot `t`. -/
abbrev slotR (t : Fin 31) : Rect S31x16x512 := Rect.unit (s := S31x16x512) ![t.val, 0, 0] S1x16x512.size (slot_inb t)

/-- The chunk for the peer at distance `o + 1`, as a transfer names it. -/
abbrev chunk (d0 : Dev nD) (o : Fin 31) : Memref sig .tc .vmem S16x512 .bf16 :=
  (acc.slice (chunkR d0 o) (fun _ => rfl)).squeeze S16x512 squeezes_S1x16x512_S16x512
/-- The device's own chunk, as a transfer names it. -/
abbrev own (d0 : Dev nD) : Memref sig .tc .vmem S16x512 .bf16 :=
  (acc.slice (Rect.unit (s := S32x16x512) (k0_off3 d0) S1x16x512.size (k0_off3_inb d0)) (fun _ => rfl)).squeeze S16x512 squeezes_S1x16x512_S16x512
/-- Slot `t` of the reduction's arrivals. -/
abbrev slot1 (t : Fin 31) : Memref sig .tc .vmem S16x512 .bf16 :=
  (com1.slice (slotR t) (fun _ => rfl)).squeeze S16x512 squeezes_S1x16x512_S16x512
/-- Slot `t` of the gather's arrivals. -/
abbrev slot2 (t : Fin 31) : Memref sig .tc .vmem S16x512 .bf16 :=
  (com2.slice (slotR t) (fun _ => rfl)).squeeze S16x512 squeezes_S1x16x512_S16x512

theorem chunk_words (d0 : Dev nD) (o : Fin 31) : (chunk d0 o).view.WordExact :=
  ((Memref.isWhole_whole cc0_scratch0).wordExact_slice rfl _ (k0_off1_wordsbf16 d0 o)).reshape _ _
theorem own_words (d0 : Dev nD) : (own d0).view.WordExact :=
  ((Memref.isWhole_whole cc0_scratch0).wordExact_slice rfl _ (k0_off3_wordsbf16 d0)).reshape _ _
theorem slot1_words (t : Fin 31) : (slot1 t).view.WordExact :=
  ((Memref.isWhole_whole cc0_scratch1).wordExact_slice rfl _ (slot_words t)).reshape _ _
theorem slot2_words (t : Fin 31) : (slot2 t).view.WordExact :=
  ((Memref.isWhole_whole cc0_scratch2).wordExact_slice rfl _ (slot_words t)).reshape _ _

/-- The semaphore a reduction send leaves on. -/
abbrev s1 (o : Fin 31) : DmaSem sig := ⟨8 + o.val, by have := o.isLt; show _ < 132; omega⟩
/-- The semaphore a reduction chunk arrives on. -/
abbrev r1 (t : Fin 31) : DmaSem sig := ⟨39 + t.val, by have := t.isLt; show _ < 132; omega⟩
/-- The semaphore a gather send leaves on. -/
abbrev s2 (o : Fin 31) : DmaSem sig := ⟨70 + o.val, by have := o.isLt; show _ < 132; omega⟩
/-- The semaphore a gathered chunk arrives on. -/
abbrev r2 (t : Fin 31) : DmaSem sig := ⟨101 + t.val, by have := t.isLt; show _ < 132; omega⟩
/-- The barrier's semaphore. -/
abbrev bar : Sem sig := sig.barrier 0 rfl
/-- The semaphore of the copy of the assembled result to the output. -/
abbrev oSem : DmaSem sig := ⟨7, by decide⟩

/-! ### The stretches -/

/-- The device index as the kernel computes with it. -/
abbrev meWord (d0 : Dev nD) : BitVec 32 := Scalar.remsi (Scalar.divsi (Dev.word d0) 1#32) 32#32

/-- The prefetches: the operands and the first two blocks of keys and values. -/
def prefetch : P F (Dev nD) := do
  let ⟨d0, _⟩ ← k0_part1 (F := F) (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18
  Prog.lift (.enqueueDma ((Memref.whole main_v4).slice (Rect.unit (s := S2x16384x128) ![0, 4096, 0] S2x4096x128.size inb_S2x16384x128_S2x4096x128_0_4096_0) (fun _ => rfl)) (.here (((Memref.whole cc0_scratch4).slice (Rect.unit (s := S2x2x4096x128) ![1, 0, 0, 0] S1x2x4096x128.size inb_S2x2x4096x128_S1x2x4096x128_1_0_0_0) (fun _ => rfl)).squeeze S2x4096x128 squeezes_S1x2x4096x128_S2x4096x128)) (.dma ⟨3, by decide⟩) (View.wordExact_bits rfl) ((View.wordExact_bits rfl).reshape _ _) ⟨Or.inl rfl, trivial⟩)
  pure d0

/-- The signal to the peer at distance `o + 1`. -/
def signalOne (d0 : Dev nD) (o : Fin 31) : P F PUnit := semSignalWord (peer d0 o) bar 1#32

/-- The local computation: the device's partial product. -/
def compute (d0 : Dev nD) : P F (FVec F S512x512 .f32) := do
  let ⟨v217, v236, v246⟩ ← k0_part9 (F := F) (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 (iota .tc S128x256 32 [0] iota_S128x256_d0_w32) (Scalar.muli 4#32 (meWord d0)) k0_pay1 k0_pay2 k0_pay3
  let v277 ← k0_part10 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v217 v236
  k0_part11 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v217 v236 v277
  let ⟨v330, v336⟩ ← k0_part12 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v217 v236
  let v372 ← k0_part13 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v217 v236 v330 v336
  k0_part14 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v372
  let ⟨v422, v428⟩ ← k0_part15 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v217 v236
  let ⟨v456, v458⟩ ← k0_part16 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v217 v236 v422 v428
  let v493 ← k0_part17 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v217 v236 v456 v458
  let ⟨v523, v524, c64_i32_426, v526, v533, v535, v537⟩ ← k0_part18 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v493
  let ⟨v549, v571, v578⟩ ← k0_part19 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v246 v523 v524 c64_i32_426 v526 v533 v535 v537
  let ⟨v593, v615, v617⟩ ← k0_part20 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v246 v549 v578
  let ⟨v638, v656⟩ ← k0_part21 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v246 v549 v571 v593 v615 v617
  let ⟨v660, v682, v696⟩ ← k0_part22 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v246 v549 v656
  k0_part23 (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 v246 v549 v638 v660 v682 v696

/-- The partial product stored in chunks, rounded. -/
def storeAcc (v : FVec F S512x512 .f32) : P F PUnit := do
  let _ : Vec F S32x16x512 .bf16 ← Prog.lift (.load acc (Rect.unit (s := S32x16x512) ![0, 0, 0] S32x16x512.size inb_S32x16x512_S32x16x512_0_0_0).toLoadRect (View.loadsAt_vmem h_S32x16x512))
  Prog.lift (.store acc (Rect.unit (s := S32x16x512) ![0, 0, 0] S32x16x512.size inb_S32x16x512_S32x16x512_0_0_0) (k0_pay51 v) Finset.univ (View.stores_vmem h_S32x16x512 ((Memref.isWhole_whole cc0_scratch0).storeExact_slice rfl _ packedbf16_S32x16x512_S32x16x512_0_0_0) (fun _ => rfl)) (.inl rfl))

/-- The reduction's send to the peer at distance `o + 1`. -/
def sendOne (d0 : Dev nD) (o : Fin 31) : P F PUnit :=
  Prog.lift (.enqueueDma (chunk d0 o) (.remote (Dev.tc (peer d0 o)) (slot1 (rev o)) (.dma (s1 o))) (.dma (r1 (rev o))) (chunk_words d0 o) (slot1_words (rev o)) ⟨⟨rfl, Or.inl rfl⟩, trivial⟩)

/-- The wait for one arrival of the reduction. -/
def recvOne (d0 : Dev nD) (o : Fin 31) : P F PUnit :=
  Prog.lift (.waitDma2 (r1 (rev o)) (chunk d0 o) (slot1 (rev o)) (chunk_words d0 o) (slot1_words (rev o)))

/-- The reduction: the device's own chunk and the arrivals summed, rounded into the send buffer and
kept in the result. -/
def reduce (d0 : Dev nD) : P F PUnit := do
  let v1392 : Vec F S1x16x512 .bf16 ← Prog.lift (.load acc (meR d0).toLoadRect (View.loadsAt_vmem h_S1x16x512))
  let v1395 : Vec F S31x16x512 .bf16 ← Prog.lift (.load com1 (Rect.unit (s := S31x16x512) ![0, 0, 0] S31x16x512.size inb_S31x16x512_S31x16x512_0_0_0).toLoadRect (View.loadsAt_vmem h_S31x16x512))
  let _ : Vec F S1x16x512 .bf16 ← Prog.lift (.load acc (meR d0).toLoadRect (View.loadsAt_vmem h_S1x16x512))
  Prog.lift (.store acc (meR d0) (k0_pay53 v1392 v1395) Finset.univ (View.stores_vmem h_S1x16x512 ((Memref.isWhole_whole cc0_scratch0).storeExact_slice rfl _ (k0_off2_packedbf16 d0)) (fun _ => rfl)) (.inl rfl))
  let _ : Vec F S1x16x512 .f32 ← Prog.lift (.load outr (meR d0).toLoadRect (View.loadsAt_vmem h_S1x16x512))
  Prog.lift (.store outr (meR d0) (k0_pay54 v1392 v1395) Finset.univ (View.stores_vmem_bits_univ h_S1x16x512 rfl) (.inl rfl))

/-- The gather's send to the peer at distance `o + 1`. -/
def spreadOne (d0 : Dev nD) (o : Fin 31) : P F PUnit :=
  Prog.lift (.enqueueDma (own d0) (.remote (Dev.tc (peer d0 o)) (slot2 (rev o)) (.dma (s2 o))) (.dma (r2 (rev o))) (own_words d0) (slot2_words (rev o)) ⟨⟨rfl, Or.inl rfl⟩, trivial⟩)

/-- One arrival of the gather, widened into the result. -/
def gatherOne (d0 : Dev nD) (t : Fin 31) : P F PUnit := do
  Prog.lift (.waitDma2 (r2 t) (own d0) (slot2 t) (own_words d0) (slot2_words t))
  let v : Vec F S1x16x512 .bf16 ← Prog.lift (.load com2 (slotR t).toLoadRect (View.loadsAt_vmem h_S1x16x512))
  let _ : Vec F S1x16x512 .f32 ← Prog.lift (.load outr (outR d0 t).toLoadRect (View.loadsAt_vmem h_S1x16x512))
  Prog.lift (.store outr (outR d0 t) (k0_pay55 v) Finset.univ (View.stores_vmem_bits_univ h_S1x16x512 rfl) (.inl rfl))

/-- The copy of the assembled result to the output, started. -/
def outStart : P F PUnit :=
  Prog.lift (.enqueueDma outr (.here (Memref.whole main_v5)) (.dma oSem) (Memref.isWhole_whole cc0_scratch10).wordExact (Memref.isWhole_whole main_v5).wordExact ⟨Or.inl rfl, trivial⟩)

/-- The wait for the departure of one reduction send. -/
def sentOne (d0 : Dev nD) (o : Fin 31) : P F PUnit :=
  Prog.lift (.waitDma2 (s1 o) (slot1 (rev o)) (chunk d0 o) (slot1_words (rev o)) (chunk_words d0 o))

/-- The wait for the departure of one gather send. -/
def spreadDone (d0 : Dev nD) (o : Fin 31) : P F PUnit :=
  Prog.lift (.waitDma2 (s2 o) (slot2 (rev o)) (own d0) (slot2_words (rev o)) (own_words d0))

/-- The wait for the copy to the output. -/
def outWait : P F PUnit :=
  Prog.lift (.waitDma2 oSem outr (Memref.whole main_v5) (Memref.isWhole_whole cc0_scratch10).wordExact (Memref.isWhole_whole main_v5).wordExact)

/-- The body in stretches. -/
def body : P F PUnit := do
  let d0 ← prefetch
  loop 31 (signalOne d0)
  let v ← compute d0
  storeAcc v
  semWaitWord bar 31#32
  loop 31 (sendOne d0)
  loop 31 (recvOne d0)
  reduce d0
  loop 31 (spreadOne d0)
  loop 31 (gatherOne d0)
  outStart
  loop 31 (sentOne d0)
  loop 31 (spreadDone d0)
  outWait

end Cert.KernelIdeal.Ring

end
-- ==== Proof.KernelIdeal.Algebra.lean ====
module

public import Idealize.ShloMosaic.Lib.Rounds
public import Idealize.ShloMosaic.Lib.Rounds.Family
public import Idealize.ShloMosaic.Lib.Transfers
public import Idealize.ShloMosaic.Lib.Pipeline.Kit
public import Idealize.ShloMosaic.Lib.Pipeline.Regions
public import Idealize.ShloMosaic.Lib.Pipeline.RegionTalk
public import Idealize.ShloMosaic.Lib.SparseCore.Stream
public import Idealize.ShloMosaic.Lib.Tactic
public import proofs.«01_k».proof.Proof.KernelIdeal.Body

/-! The resource algebra the kernel is proved over, and the rule for a loop of the body. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The protocol's own algebra: rounds whose duties are numbered by the offset of the peer. -/
abbrev UB : Type := URounds (GSem nD τ sig) (Fin 31)

/-- The pipeline's, the protocol's and the local transfers' algebras side by side. -/
abbrev UU : Type := UR sig nD τ × (UB × Counters)

/-- Resources of this kernel. A wait or a debt carries a flag: `true` for the protocol between
devices, `false` for a device's own transfers. -/
abbrev MM (F : FTy → Type) : Type := MT nD τ sig Bool (Elt F) ℕ UU ℕ

/-- Where the pipeline's algebra sits. -/
abbrev EP : Emb (UR sig nD τ) (MT nD τ sig Bool (Elt F) ℕ UU ℕ) := embL
/-- Where the protocol's algebra sits. -/
abbrev ER : Emb UB (MT nD τ sig Bool (Elt F) ℕ UU ℕ) := (Emb.inl : Emb UB (UB × Counters)).trans embR

/-- No loop of the kernel is a recursive call. -/
abbrev 𝒱₀ : Variants := Variants.none

/-- A loop: at each turn the state passes from `J k` to `J (k + 1)` and the item's resources from
`R k` to `S k`. -/
theorem wp_loop (c : Dev nD) : ∀ (n : ℕ) (f : Fin n → P F PUnit) (J : ℕ → sProp (MM F)) (R S : Fin n → sProp (MM F)),
    (∀ (k : Fin n) (Q : PUnit → sProp (MM F)),
      iprop(J k.val ∗ R k ∗ (J (k.val + 1) ∗ S k -∗ Q ⟨⟩)) ⊢ wp frame (wpE defs₀ 𝒱₀ (c : Thread nD τ) none) Set.univ (f k) Q) →
    ∀ Q : PUnit → sProp (MM F),
      iprop(J 0 ∗ bigSep Finset.univ R ∗ (J n ∗ bigSep Finset.univ S -∗ Q ⟨⟩))
        ⊢ wp frame (wpE defs₀ 𝒱₀ (c : Thread nD τ) none) Set.univ (loop n f) Q
  | 0, f, J, R, S, hf, Q => by
    rw [Finset.univ_eq_empty, bigSep_empty, bigSep_empty]
    iintro ⟨HJ, -, HQ⟩
    unfold loop
    rw [wp_pure]
    imodintro
    iapply HQ
    isplitl [HJ]; · iexact HJ
    iempintro
  | n + 1, f, J, R, S, hf, Q => by
    have h0 : ∀ Q : PUnit → sProp (MM F), iprop(J 0 ∗ R 0 ∗ (J (0 + 1) ∗ S 0 -∗ Q ⟨⟩))
        ⊢ wp frame (wpE defs₀ 𝒱₀ (c : Thread nD τ) none) Set.univ (f 0) Q := hf 0
    rw [bigSep_univ_succ, bigSep_univ_succ]
    iintro ⟨HJ, ⟨HR0, HR⟩, HQ⟩
    unfold loop
    rw [wp_bind]
    iapply (h0 _)
    isplitl [HJ]; · iexact HJ
    isplitl [HR0]; · iexact HR0
    iintro ⟨HJ, HS0⟩
    iapply (wp_loop c n (fun i => f i.succ) (fun k => J (k + 1)) (fun i => R i.succ) (fun i => S i.succ)
      (fun k Q => hf k.succ Q) Q)
    isplitl [HJ]; · iexact HJ
    isplitl [HR]; · iexact HR
    iintro ⟨HJ, HS⟩
    iapply HQ
    isplitl [HJ]; · iexact HJ
    isplitl [HS0]; · iexact HS0
    iexact HS

end Cert.KernelIdeal.Ring

end
-- ==== Proof.KernelIdeal.Contents.lean ====
module

public import proofs.«01_k».proof.Proof.KernelIdeal.Body
public import Idealize.ShloMosaic.Lib.Pointwise
public import Idealize.ShloMosaic.Lib.ViewIndex
public import Idealize.ShloMosaic.Lib.Writes

/-! What the buffers of the exchange hold. `A c` is what device `c` sends chunks of; slot `t` of
device `c`'s arrivals is written by the device at distance `t + 1`. -/

@[expose] public section

noncomputable section

namespace Cert.KernelIdeal.Ring

open Idealize.ShloMosaic Idealize.ShloMosaic.TcCoe
open Cert.KernelIdeal Cert.KernelIdeal.Gen

variable {F : FTy → Type} [FloatOps F]

/-! ### Devices and their distances -/

theorem peer_rev (c : Dev nD) (o : Fin 31) : peer (peer c o) (rev o) = c := by
  revert c o; decide +kernel
theorem peer_ne (c : Dev nD) (o : Fin 31) : peer c o ≠ c := by
  revert c o; decide +kernel
theorem peer_inj (c : Dev nD) : Function.Injective (peer c) := by
  revert c; decide +kernel
theorem peer_surj (c d : Dev nD) (h : d ≠ c) : ∃ o, peer c o = d := by
  revert c d; decide +kernel
theorem rev_rev (o : Fin 31) : rev (rev o) = o := Fin.ext (by have := o.isLt; change 30 - (30 - o.val) = o.val; omega)
theorem peer_val (c : Dev nD) (o : Fin 31) : (peer c o).val = (c.val + o.val + 1) % 32 := by
  revert c o; decide +kernel

/-! ### Chunks and slots as sets of elements -/

/-- An element of one chunk, in the buffer of all chunks. -/
abbrev at32 (d : Fin 32) (x : S16x512.Idx) : S32x16x512.Idx := ix3 (n0 := 32) (n1 := 16) (n2 := 512) d (x 0) (x 1)
/-- An element of one slot, in the buffer of all slots. -/
abbrev at31 (t : Fin 31) (x : S16x512.Idx) : S31x16x512.Idx := ix3 (n0 := 31) (n1 := 16) (n2 := 512) t (x 0) (x 1)

theorem unit_emb32 (off : Fin 3 → ℕ) (d : Fin 32) (hoff : off = ![d.val, 0, 0]) (h : ∀ a, off a + S1x16x512.size a ≤ S32x16x512.size a) (y : S1x16x512.Idx) :
    (Rect.unit (s := S32x16x512) off S1x16x512.size h).emb y = ix3 (n0 := 32) (n1 := 16) (n2 := 512) d (y 1) (y 2) := by
  subst hoff
  have h0 : (y 0).val < 1 := (y 0).isLt
  refine Idealize.ShloMosaic.Shape.idx3_ext ?_ ?_ ?_
  · change d.val + 1 * (y 0).val = d.val; omega
  · change 0 + 1 * (y 1).val = (y 1).val; omega
  · change 0 + 1 * (y 2).val = (y 2).val; omega

theorem unit_emb31 (t : Fin 31) (y : S1x16x512.Idx) : (slotR t).emb y = ix3 (n0 := 31) (n1 := 16) (n2 := 512) t (y 1) (y 2) := by
  have h0 : (y 0).val < 1 := (y 0).isLt
  refine Idealize.ShloMosaic.Shape.idx3_ext ?_ ?_ ?_
  · change t.val + 1 * (y 0).val = t.val; omega
  · change 0 + 1 * (y 1).val = (y 1).val; omega
  · change 0 + 1 * (y 2).val = (y 2).val; omega

theorem chunk_off (c : Dev nD) (o : Fin 31) : k0_off1 c (BitVec.ofNat 32 o.val) = ![(peer c o).val, 0, 0] := by
  rw [k0_off1_eq, peer_val]
theorem out_off (c : Dev nD) (o : Fin 31) : k0_off4 c (BitVec.ofNat 32 o.val) = ![(peer c o).val, 0, 0] := by
  rw [k0_off4_eq, peer_val]

theorem chunk_emb (c : Dev nD) (o : Fin 31) (x : S16x512.Idx) : (chunk c o).view.emb x = at32 (peer c o) x :=
  (congrArg _ (Shape.reshapeEquiv_cons_one (n := 2) (d := ![16, 512]) _ x)).trans (unit_emb32 _ (peer c o) (chunk_off c o) _ _)
theorem own_emb (c : Dev nD) (x : S16x512.Idx) : (own c).view.emb x = at32 c x :=
  (congrArg _ (Shape.reshapeEquiv_cons_one (n := 2) (d := ![16, 512]) _ x)).trans (unit_emb32 _ c (k0_off3_eq c) _ _)
theorem slot1_emb (t : Fin 31) (x : S16x512.Idx) : (slot1 t).view.emb x = at31 t x :=
  (congrArg _ (Shape.reshapeEquiv_cons_one (n := 2) (d := ![16, 512]) _ x)).trans (unit_emb31 t _)
theorem slot2_emb (t : Fin 31) (x : S16x512.Idx) : (slot2 t).view.emb x = at31 t x :=
  (congrArg _ (Shape.reshapeEquiv_cons_one (n := 2) (d := ![16, 512]) _ x)).trans (unit_emb31 t _)

/-- The elements of one chunk. -/
def set32 (d : Fin 32) : Finset S32x16x512.Idx := Finset.univ.filter fun i => (i 0).val = d.val
/-- The elements of one slot. -/
def set31 (t : Fin 31) : Finset S31x16x512.Idx := Finset.univ.filter fun i => (i 0).val = t.val

theorem map_set32 {f : S16x512.Idx ↪ S32x16x512.Idx} (d : Fin 32) (h : ∀ x, f x = at32 d x) : Finset.univ.map f = set32 d := by
  ext i
  simp only [Finset.mem_map, Finset.mem_univ, true_and, set32, Finset.mem_filter, h]
  constructor
  · rintro ⟨x, rfl⟩; rfl
  · intro hi
    refine ⟨ix2 (n0 := 16) (n1 := 512) (i 1) (i 2), ?_⟩
    exact Idealize.ShloMosaic.Shape.idx3_ext hi.symm rfl rfl
theorem map_set31 {f : S16x512.Idx ↪ S31x16x512.Idx} (d : Fin 31) (h : ∀ x, f x = at31 d x) : Finset.univ.map f = set31 d := by
  ext i
  simp only [Finset.mem_map, Finset.mem_univ, true_and, set31, Finset.mem_filter, h]
  constructor
  · rintro ⟨x, rfl⟩; rfl
  · intro hi
    refine ⟨ix2 (n0 := 16) (n1 := 512) (i 1) (i 2), ?_⟩
    exact Idealize.ShloMosaic.Shape.idx3_ext hi.symm rfl rfl

theorem chunk_set (c : Dev nD) (o : Fin 31) : (chunk c o).view.set = set32 (peer c o) := map_set32 _ (chunk_emb c o)
theorem own_set (c : Dev nD) : (own c).view.set = set32 c := map_set32 _ (own_emb c)
theorem slot1_set (t : Fin 31) : (slot1 t).view.set = set31 t := map_set31 _ (slot1_emb t)
theorem slot2_set (t : Fin 31) : (slot2 t).view.set = set31 t := map_set31 _ (slot2_emb t)

theorem set32_disj (d d' : Fin 32) (h : d ≠ d') : Disjoint (set32 d) (set32 d') :=
  Finset.disjoint_left.2 fun i hi hi' => h (Fin.ext ((Finset.mem_filter.1 hi).2.symm.trans (Finset.mem_filter.1 hi').2))
theorem set31_disj (d d' : Fin 31) (h : d ≠ d') : Disjoint (set31 d) (set31 d') :=
  Finset.disjoint_left.2 fun i hi hi' => h (Fin.ext ((Finset.mem_filter.1 hi).2.symm.trans (Finset.mem_filter.1 hi').2))
theorem set31_cover : Finset.univ.biUnion set31 = Finset.univ := by
  ext i
  simp only [set31, Finset.mem_biUnion, Finset.mem_univ, true_and, Finset.mem_filter, iff_true]
  exact ⟨i 0, rfl⟩
theorem set32_cover (c : Dev nD) : Finset.univ \ set32 c = Finset.univ.biUnion fun o => set32 (peer c o) := by
  ext i
  simp only [Finset.mem_sdiff, Finset.mem_univ, true_and, set32, Finset.mem_filter, Finset.mem_biUnion]
  constructor
  · intro h
    obtain ⟨o, ho⟩ := peer_surj c (i 0) (fun e => h (congrArg Fin.val e))
    exact ⟨o, (congrArg Fin.val ho).symm⟩
  · rintro ⟨o, ho⟩ h
    exact peer_ne c o (Fin.ext (ho.symm.trans h))

/-! ### Contents -/

/-- Chunk `d` of a buffer of chunks. -/
def chunkOf {e : EltTy} (a : Vec F S32x16x512 e) (d : Fin 32) : Vec F S1x16x512 e := fun x => a (ix3 (n0 := 32) (n1 := 16) (n2 := 512) d (x 1) (x 2))

variable (A : Dev nD → Vec F S32x16x512 .bf16)

/-- What the reduction's arrivals hold. -/
def com1V (c : Dev nD) : Vec F S31x16x512 .bf16 := fun y => A (peer c (y 0)) (ix3 (n0 := 32) (n1 := 16) (n2 := 512) c (y 1) (y 2))
/-- A device's reduced chunk, rounded. -/
def sumV (c : Dev nD) : Vec F S1x16x512 .bf16 := k0_pay53 (chunkOf (A c) c) (com1V A c)
/-- The send buffer once the reduced chunk has replaced the device's own. -/
def accB (c : Dev nD) : Vec F S32x16x512 .bf16 := fun y => if (y 0).val = c.val then sumV A c (ix3 (n0 := 1) (n1 := 16) (n2 := 512) 0 (y 1) (y 2)) else A c y
/-- What the gather's arrivals hold. -/
def com2V (c : Dev nD) : Vec F S31x16x512 .bf16 := fun y => sumV A (peer c (y 0)) (ix3 (n0 := 1) (n1 := 16) (n2 := 512) 0 (y 1) (y 2))
/-- The assembled result. -/
def outV (c : Dev nD) : Vec F S32x16x512 .f32 := fun y =>
  if (y 0).val = c.val then k0_pay54 (chunkOf (A c) c) (com1V A c) (ix3 (n0 := 1) (n1 := 16) (n2 := 512) 0 (y 1) (y 2))
  else k0_pay55 (sumV A (y 0)) (ix3 (n0 := 1) (n1 := 16) (n2 := 512) 0 (y 1) (y 2))

/-- A chunk that has landed in the slot of its sender. -/
theorem land1 (c : Dev nD) (o : Fin 31) (fd : Buf (Elt F) ((slot1 (rev o)).view.loc ((peer c o : Dev nD) : Thread nD τ))) (i) (hi : i ∈ (slot1 (rev o)).view.set) :
    (slot1 (rev o)).view.write (Elt F) fd ((chunk c o).view.read (Elt F) (A c)) Finset.univ i = com1V A (peer c o) i := by
  obtain ⟨x, -, rfl⟩ := Finset.mem_map.1 hi
  refine (View.write_emb_of_mem _ _ (Finset.mem_univ x)).trans ?_
  change A c ((chunk c o).view.emb x) = com1V A (peer c o) ((slot1 (rev o)).view.emb x)
  rw [chunk_emb, slot1_emb]
  change _ = A (peer (peer c o) (rev o)) _
  rw [peer_rev]
  rfl

/-- A reduced chunk that has landed in the slot of its sender. -/
theorem land2 (c : Dev nD) (o : Fin 31) (fd : Buf (Elt F) ((slot2 (rev o)).view.loc ((peer c o : Dev nD) : Thread nD τ))) (i) (hi : i ∈ (slot2 (rev o)).view.set) :
    (slot2 (rev o)).view.write (Elt F) fd ((own c).view.read (Elt F) (accB A c)) Finset.univ i = com2V A (peer c o) i := by
  obtain ⟨x, -, rfl⟩ := Finset.mem_map.1 hi
  refine (View.write_emb_of_mem _ _ (Finset.mem_univ x)).trans ?_
  change accB A c ((own c).view.emb x) = com2V A (peer c o) ((slot2 (rev o)).view.emb x)
  rw [own_emb, slot2_emb]
  change (if c.val = c.val then _ else _) = sumV A (peer (peer c o) (rev o)) _
  rw [peer_rev, if_pos rfl]
  rfl

end Cert.KernelIdeal.Ring

end
-- ==== Proof.KernelIdeal.Schedule.lean ====
module

public import proofs.«01_k».proof.Proof.KernelIdeal.Algebra
public import proofs.«01_k».proof.Proof.KernelIdeal.Contents
public import Idealize.ShloMosaic.Lib.Ring

/-! The protocol of the exchange: which cells there are, who pays each of them, how much, and what
the payment hands over. The barrier cell of a device takes one unit from each of the other 31, and
with it the two slots of the payer the device will write. Every transfer semaphore takes one
transfer: a send semaphore gives the source back, a receive semaphore gives the slot with the
contents the transfer left. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ### Cells -/

/-- The barrier cell of a device. -/
abbrev barC (c : Dev nD) : GSem nD τ sig := ((c : Thread nD τ), .reg bar)
/-- A transfer cell of a device. -/
abbrev dmaC (c : Dev nD) (s : DmaSem sig) : GSem nD τ sig := ((c : Thread nD τ), .dma s)

/-- Which of the four families of transfer semaphores one belongs to. -/
def famOf (s : DmaSem sig) : Fin 4 := ⟨(s.val - 8) / 31 % 4, Nat.mod_lt _ (by decide)⟩
/-- Its place in the family. -/
def slotOf (s : DmaSem sig) : Fin 31 := ⟨(s.val - 8) % 31, Nat.mod_lt _ (by decide)⟩

theorem fam_s1 (o : Fin 31) : famOf (s1 o) = 0 := by revert o; decide
theorem fam_r1 (o : Fin 31) : famOf (r1 o) = 1 := by revert o; decide
theorem fam_s2 (o : Fin 31) : famOf (s2 o) = 2 := by revert o; decide
theorem fam_r2 (o : Fin 31) : famOf (r2 o) = 3 := by revert o; decide
theorem slot_s1 (o : Fin 31) : slotOf (s1 o) = o := by revert o; decide
theorem slot_r1 (o : Fin 31) : slotOf (r1 o) = o := by revert o; decide
theorem slot_s2 (o : Fin 31) : slotOf (s2 o) = o := by revert o; decide
theorem slot_r2 (o : Fin 31) : slotOf (r2 o) = o := by revert o; decide

/-- What one transfer of a chunk amounts to. -/
abbrev N : ℕ := (slot1 0).view.dmaCredit
theorem N_pos : 0 < N := View.dmaCredit_pos _ (by decide)

/-- Counting the distances the other way round. -/
def revEquiv : Fin 31 ≃ Fin 31 := ⟨rev, rev, rev_rev, rev_rev⟩
theorem revEquiv_apply (o : Fin 31) : revEquiv o = rev o := rfl

/-! ### What is handed over -/

/-- Slot `t` of the reduction's arrivals on device `c`. -/
abbrev hold1 (c : Dev nD) (t : Fin 31) (f : Vec F S31x16x512 .bf16) : sProp (MM F) :=
  (slot1 t).view.loc (c : Thread nD τ) ↦[(slot1 t).view.set]{fullShare} f
/-- Slot `t` of the gather's arrivals on device `c`. -/
abbrev hold2 (c : Dev nD) (t : Fin 31) (f : Vec F S31x16x512 .bf16) : sProp (MM F) :=
  (slot2 t).view.loc (c : Thread nD τ) ↦[(slot2 t).view.set]{fullShare} f
/-- The chunk device `c` sends at distance `o + 1`. -/
abbrev holdA (c : Dev nD) (o : Fin 31) (f : Vec F S32x16x512 .bf16) : sProp (MM F) :=
  (chunk c o).view.loc (c : Thread nD τ) ↦[(chunk c o).view.set]{fullShare} f
/-- Device `c`'s own chunk, at a share. -/
abbrev holdO (c : Dev nD) (q : PosShare TreeShare) (f : Vec F S32x16x512 .bf16) : sProp (MM F) :=
  (own c).view.loc (c : Thread nD τ) ↦[(own c).view.set]{q} f

/-- What device `d` hands over with its signal at distance `o + 1`: its two slots `o`, and that their
receive cells have been opened. -/
def barPay (d : Dev nD) (o : Fin 31) : sProp (MM F) :=
  iprop((∃ f, hold1 d o f) ∗ (∃ f, hold2 d o f) ∗ reached ER (dmaC d (r1 o)) 0 ∗ reached ER (dmaC d (r2 o)) 0)

variable (A : Dev nD → Vec F S32x16x512 .bf16)

/-- What a transfer cell's payment hands over. -/
def dmaPay (c : Dev nD) (k : Fin 4) (t : Fin 31) : sProp (MM F) :=
  if k = 0 then holdA c t (A c)
  else if k = 1 then hold1 c t (com1V A c)
  else if k = 2 then holdO c (Transfers.shareTok fullShare 31 t) (accB A c)
  else hold2 c t (com2V A c)

/-- The schedule. -/
def sched : Rounds.Schedule (GSem nD τ sig) (Fin 31) (MM F) where
  duties g r := if r = 0 ∧ g.1.2 = .tc then (match g.2 with | .reg _ => Finset.univ | .dma _ => {0}) else ∅
  unitless _ := False
  amount g _ _ := match g.2 with | .reg _ => 1 | .dma _ => N
  payload g _ d := match g.2 with | .reg _ => barPay (peer g.1.1 (rev d)) d | .dma s => dmaPay A g.1.1 (famOf s) (slotOf s)
  amount_pos g _ _ _ := by
    obtain ⟨t, sm⟩ := g
    cases sm
    · exact Nat.one_pos
    · exact N_pos

instance sched_storable (g : GSem nD τ sig) (r : ℕ) (d : Fin 31) : BI.Storable (upEmb : UEmb _ (MM F)) ((sched A).payload g r d) := by
  obtain ⟨t, sm⟩ := g
  cases sm with
  | reg s =>
    show BI.Storable upEmb (barPay (peer t.1 (rev d)) d)
    unfold barPay
    infer_instance
  | dma s =>
    show BI.Storable upEmb (dmaPay A t.1 (famOf s) (slotOf s))
    unfold dmaPay
    (repeat' split) <;> infer_instance

section Tables

variable (c : Dev nD) (s : DmaSem sig) (o : Fin 31)

theorem duties_bar : (sched A).duties (barC c) 0 = Finset.univ := by
  dsimp only [sched]
  exact if_pos ⟨rfl, rfl⟩
theorem duties_dma : (sched A).duties (dmaC c s) 0 = {0} := by
  dsimp only [sched]
  exact if_pos ⟨rfl, rfl⟩
theorem duties_later (g : GSem nD τ sig) : ∀ r, 1 ≤ r → (sched A).duties g r = ∅ := fun r hr => if_neg fun h => by omega
theorem amount_bar : (sched A).amount (barC c) 0 o = 1 := rfl
theorem amount_dma : (sched A).amount (dmaC c s) 0 o = N := rfl
theorem expect_bar : (sched A).expect (barC c) 0 = 31 := by
  unfold Schedule.expect Schedule.amountOf
  rw [duties_bar]
  simp only [amount_bar, Finset.sum_const, Finset.card_univ, Fintype.card_fin, smul_eq_mul, mul_one]
theorem expect_dma : (sched A).expect (dmaC c s) 0 = N := by
  unfold Schedule.expect Schedule.amountOf
  rw [duties_dma, Finset.sum_singleton, amount_dma]
theorem payload_bar : (sched A).payload (barC c) 0 o = barPay (peer c (rev o)) o := rfl
theorem payload_s1 (d : Fin 31) : (sched A).payload (dmaC c (s1 o)) 0 d = holdA c o (A c) := by
  show dmaPay A c (famOf (s1 o)) (slotOf (s1 o)) = _
  rw [fam_s1, slot_s1]; rfl
theorem payload_r1 (d : Fin 31) : (sched A).payload (dmaC c (r1 o)) 0 d = hold1 c o (com1V A c) := by
  show dmaPay A c (famOf (r1 o)) (slotOf (r1 o)) = _
  rw [fam_r1, slot_r1]; rfl
theorem payload_s2 (d : Fin 31) : (sched A).payload (dmaC c (s2 o)) 0 d = holdO c (Transfers.shareTok fullShare 31 o) (accB A c) := by
  show dmaPay A c (famOf (s2 o)) (slotOf (s2 o)) = _
  rw [fam_s2, slot_s2]; rfl
theorem payload_r2 (d : Fin 31) : (sched A).payload (dmaC c (r2 o)) 0 d = hold2 c o (com2V A c) := by
  show dmaPay A c (famOf (r2 o)) (slotOf (r2 o)) = _
  rw [fam_r2, slot_r2]; rfl
theorem rest_dma : bigSep ((sched A).duties (dmaC c s) 0 \ ∅) (fun u => (sched A).payload (dmaC c s) 0 u) = (sched A).payload (dmaC c s) 0 0 := by
  rw [Finset.sdiff_empty, duties_dma, bigSep_singleton]
theorem rest_bar : bigSep ((sched A).duties (barC c) 0 \ ∅) (fun u => (sched A).payload (barC c) 0 u)
    = bigSep Finset.univ fun o => barPay (F := F) (peer c o) (rev o) := by
  rw [Finset.sdiff_empty, duties_bar]
  rw [bigSep_univ_equiv revEquiv fun o => barPay (F := F) (peer c o) (rev o)]
  refine bigSep_congr fun o _ => (payload_bar A c o).trans ?_
  rw [revEquiv_apply, rev_rev]

end Tables

/-! ### What is owed, and the levels -/

/-- The dues of the steps from `k` on. -/
def debt (f : Fin 31 → CellTallies nD τ sig Bool) (k : ℕ) : CellTallies nD τ sig Bool := ∑ i ∈ Finset.univ.filter (fun i : Fin 31 => k ≤ i.val), f i

theorem debt_step (f : Fin 31 → CellTallies nD τ sig Bool) (k : Fin 31) : debt f k.val = debt f (k.val + 1) + f k := by
  unfold debt
  have e : (Finset.univ.filter fun i : Fin 31 => k.val ≤ i.val) = insert k (Finset.univ.filter fun i : Fin 31 => k.val + 1 ≤ i.val) := by
    ext i
    simp only [Finset.mem_filter, Finset.mem_univ, true_and, Finset.mem_insert, Fin.ext_iff]
    omega
  rw [e, Finset.sum_insert (by simp), add_comm]
theorem debt_end (f : Fin 31 → CellTallies nD τ sig Bool) : debt f 31 = 0 := by
  unfold debt
  rw [Finset.filter_false_of_mem fun i _ => by have := i.isLt; omega, Finset.sum_empty]
theorem debt_zero (f : Fin 31 → CellTallies nD τ sig Bool) : debt f 0 = ∑ i, f i := by
  unfold debt
  rw [Finset.filter_true_of_mem fun i _ => Nat.zero_le _]
theorem debt_pos (f : Fin 31 → CellTallies nD τ sig Bool) (k : ℕ) (g : GSem nD τ sig) (u : Bool) (h : 0 < debt f k g u) : ∃ i, 0 < f i g u := by
  unfold debt at h
  rw [Finset.sum_apply, Finsupp.finset_sum_apply] at h
  obtain ⟨i, -, hi⟩ := Finset.exists_ne_zero_of_sum_ne_zero h.ne'
  exact ⟨i, Nat.pos_of_ne_zero hi⟩

/-- The unit owed to the barrier of the peer at distance `o + 1`. -/
def dueB (c : Dev nD) (o : Fin 31) : CellTallies nD τ sig Bool := tallyAt (barC (peer c o)) true 1
/-- The reduction's transfer owed to it. -/
def due1 (c : Dev nD) (o : Fin 31) : CellTallies nD τ sig Bool := tallyAt (dmaC (peer c o) (r1 (rev o))) true N
/-- The gather's transfer owed to it. -/
def due2 (c : Dev nD) (o : Fin 31) : CellTallies nD τ sig Bool := tallyAt (dmaC (peer c o) (r2 (rev o))) true N

/-- What a device owes at launch. -/
def O₀ (c : Dev nD) : CellTallies nD τ sig Bool := debt (dueB c) 0 + (debt (due1 c) 0 + debt (due2 c) 0)

/-- The indices of a cell. -/
def L (g : GSem nD τ sig) : Finset Bool := if g.1.2 = .tc then Finset.univ else ∅
/-- The levels: the barrier below the reduction's arrivals, these below the gather's. -/
def lv (g : GSem nD τ sig) (b : Bool) : ℕ :=
  if b then (match g.2 with | .reg _ => 1 | .dma s => if famOf s = 1 then 2 else if famOf s = 3 then 3 else 0) else 0

theorem L_of_ne (g : GSem nD τ sig) (h : g.1.2 ≠ .tc) : L g = ∅ := if_neg h
theorem L_tc (c : Dev nD) (sm : SemLoc sig) : L ((c : Thread nD τ), sm) = Finset.univ := if_pos rfl

/-- Everything owed lies on TensorCore cells at or above a level. -/
def Above (n : ℕ) (O : CellTallies nD τ sig Bool) : Prop := ∀ g u, 0 < O g u → u ∈ L g ∧ n ≤ lv g u

theorem above_tally (n : ℕ) (c : Dev nD) (sm : SemLoc sig) (k : ℕ) (h : n ≤ lv ((c : Thread nD τ), sm) true) : Above n (tallyAt ((c : Thread nD τ), sm) true k) := by
  intro g u hg
  rw [tallyAt_apply] at hg
  by_cases e : g = ((c : Thread nD τ), sm) ∧ u = true
  · rw [e.1, e.2, L_tc]; exact ⟨Finset.mem_univ _, h⟩
  · rw [if_neg e] at hg; exact absurd hg (Nat.lt_irrefl 0)
theorem above_debt (n : ℕ) (f : Fin 31 → CellTallies nD τ sig Bool) (h : ∀ i, Above n (f i)) (k : ℕ) : Above n (debt f k) := fun g u hg => by
  obtain ⟨i, hi⟩ := debt_pos f k g u hg
  exact h i g u hi
theorem above_add (n : ℕ) (O P : CellTallies nD τ sig Bool) (h : Above n O) (h' : Above n P) : Above n (O + P) := fun g u hg => by
  rw [Pi.add_apply, Finsupp.add_apply] at hg
  rcases Nat.eq_zero_or_pos (O g u) with e | e
  · exact h' g u (by omega)
  · exact h g u e
theorem Above.mono {n n' : ℕ} {O : CellTallies nD τ sig Bool} (h : Above n O) (hn : n' ≤ n) : Above n' O := fun g u hg => ⟨(h g u hg).1, hn.trans (h g u hg).2⟩

theorem above_B (c : Dev nD) (k : ℕ) : Above 1 (debt (dueB c) k) := above_debt _ _ (fun o => above_tally 1 _ _ _ (le_refl 1)) k
theorem above_1 (c : Dev nD) (k : ℕ) : Above 2 (debt (due1 c) k) := above_debt _ _ (fun o => above_tally 2 _ _ _ (by
  show 2 ≤ if famOf (r1 (rev o)) = 1 then 2 else if famOf (r1 (rev o)) = 3 then 3 else 0
  rw [fam_r1]; decide)) k
theorem above_2 (c : Dev nD) (k : ℕ) : Above 3 (debt (due2 c) k) := above_debt _ _ (fun o => above_tally 3 _ _ _ (by
  show 3 ≤ if famOf (r2 (rev o)) = 1 then 2 else if famOf (r2 (rev o)) = 3 then 3 else 0
  rw [fam_r2]; decide)) k

/-- A wait on a cell below everything owed is allowed. -/
theorem mayWait_above (c : Dev nD) (sm : SemLoc sig) (b : Bool) (O : CellTallies nD τ sig Bool) (n : ℕ) (hsm : lv ((c : Thread nD τ), sm) b ≤ n) (h : Above (n + 1) O) :
    (levAts L lv : sProp (MM F)) ⊢ MayWait (c : Thread nD τ) sm b O :=
  MayOwe.of_cut (L := L) (lev := lv) n (fun p hp => by rw [Finset.mem_singleton.mp hp, L_tc]; exact Finset.mem_univ _)
    (fun g u hg => (h g u hg).1) (fun p hp => by rw [Finset.mem_singleton.mp hp]; exact hsm) (fun g u hg => (h g u hg).2)

/-- The local transfers may be waited for whatever of the exchange is still owed. -/
theorem mayWaits_local (c : Dev nD) (O : CellTallies nD τ sig Bool) (h : Above 1 O) :
    (levAts L lv : sProp (MM F)) ⊢ Transfers.MayWaits (c : Thread nD τ) false O := by
  unfold Transfers.MayWaits
  iintro #H
  iintro %sm
  iapply (mayWait_above c sm false O 0 (le_refl 0) h)
  iexact H

end Cert.KernelIdeal.Ring

end
-- ==== Proof.KernelIdeal.Pieces.lean ====
module

public import proofs.«01_k».proof.Proof.KernelIdeal.Schedule
public import Idealize.ShloMosaic.Lib.Ring

/-! The exchange's buffers in pieces: the send buffer as the device's own chunk and the chunks of its
peers, the arrival buffers as slots; and what loads and stores of one piece read and leave. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (A : Dev nD → Vec F S32x16x512 .bf16)

/-! ### Splitting and joining -/

/-- The send buffer is the device's own chunk and the chunks for its peers. -/
theorem acc_split (c : Dev nD) (f : Vec F S32x16x512 .bf16) :
    (acc.view.loc (c : Thread nD τ) ↦{fullShare} f : sProp (MM F)) ⊣⊢ iprop(holdO c fullShare f ∗ bigSep Finset.univ fun o => holdA c o f) := by
  have e : (bigSep Finset.univ fun o => holdA c o f : sProp (MM F)) = (acc.view.loc (c : Thread nD τ) ↦[Finset.univ \ set32 c]{fullShare} f) := by
    rw [set32_cover]
    rw [pointsTo_biUnion (ℓ := acc.view.loc (c : Thread nD τ)) Finset.univ (fun o => set32 (peer c o)) fun o _ o' _ h => set32_disj _ _ fun e => h (peer_inj c e)]
    exact bigSep_congr fun o _ => congrArg (fun S => (acc.view.loc (c : Thread nD τ) ↦[S]{fullShare} f : sProp (MM F))) (chunk_set c o)
  have e' : (holdO c fullShare f : sProp (MM F)) = (acc.view.loc (c : Thread nD τ) ↦[set32 c]{fullShare} f) :=
    congrArg (fun S => (acc.view.loc (c : Thread nD τ) ↦[S]{fullShare} f : sProp (MM F))) (own_set c)
  rw [e, e']
  exact pointsTo_split_subset (Finset.subset_univ _)

/-- The chunks for the peers are untouched by the reduction. -/
theorem holdA_same (c : Dev nD) (o : Fin 31) : (holdA c o (A c) : sProp (MM F)) = holdA c o (accB A c) := by
  refine pointsTo_congr fun i hi => ?_
  rw [chunk_set] at hi
  have h : (i 0).val = (peer c o).val := (Finset.mem_filter.1 hi).2
  unfold accB
  rw [if_neg fun e => peer_ne c o (Fin.ext (h.symm.trans e))]

/-- The send buffer once all its pieces have come back. -/
theorem acc_join (c : Dev nD) : iprop(holdO c fullShare (accB A c) ∗ bigSep Finset.univ fun o => holdA c o (A c))
    ⊢ (acc.view.loc (c : Thread nD τ) ↦{fullShare} accB A c : sProp (MM F)) := by
  rw [bigSep_congr fun o _ => holdA_same A c o]
  exact (acc_split c (accB A c)).2

/-- The reduction's arrival buffer is its slots. -/
theorem com1_split (c : Dev nD) (f : Vec F S31x16x512 .bf16) :
    (com1.view.loc (c : Thread nD τ) ↦{fullShare} f : sProp (MM F)) = bigSep Finset.univ fun t => hold1 c t f := by
  refine Eq.trans (Idealize.ShloMosaic.Ring.pointsTo_blocks (ℓ := com1.view.loc (c : Thread nD τ)) set31 set31_disj set31_cover f) ?_
  exact bigSep_congr fun t _ => congrArg (fun S => (com1.view.loc (c : Thread nD τ) ↦[S]{fullShare} f : sProp (MM F))) (slot1_set t).symm
/-- The gather's arrival buffer is its slots. -/
theorem com2_split (c : Dev nD) (f : Vec F S31x16x512 .bf16) :
    (com2.view.loc (c : Thread nD τ) ↦{fullShare} f : sProp (MM F)) = bigSep Finset.univ fun t => hold2 c t f := by
  refine Eq.trans (Idealize.ShloMosaic.Ring.pointsTo_blocks (ℓ := com2.view.loc (c : Thread nD τ)) set31 set31_disj set31_cover f) ?_
  exact bigSep_congr fun t _ => congrArg (fun S => (com2.view.loc (c : Thread nD τ) ↦[S]{fullShare} f : sProp (MM F))) (slot2_set t).symm

/-! ### One piece through loads and stores -/

/-- The index of a piece from the two coordinates that vary. -/
theorem piece_idx (x : S1x16x512.Idx) : ix3 (n0 := 1) (n1 := 16) (n2 := 512) 0 (x 1) (x 2) = x := by
  have h0 : (x 0).val < 1 := (x 0).isLt
  refine Idealize.ShloMosaic.Shape.idx3_ext ?_ rfl rfl
  change 0 = (x 0).val
  omega

theorem rect32_set (off : Fin 3 → ℕ) (d : Fin 32) (hoff : off = ![d.val, 0, 0]) (h : ∀ a, off a + S1x16x512.size a ≤ S32x16x512.size a) :
    (Rect.unit (s := S32x16x512) off S1x16x512.size h).set = set32 d := by
  subst hoff
  ext i
  rw [Rect.mem_set_unit]
  simp only [set32, Finset.mem_filter, Finset.mem_univ, true_and]
  constructor
  · intro H
    have := H 0
    change d.val ≤ (i 0).val ∧ (i 0).val < d.val + 1 at this
    omega
  · intro H a
    have h1 : (i 1).val < 16 := (i 1).isLt
    have h2 : (i 2).val < 512 := (i 2).isLt
    fin_cases a
    · change d.val ≤ (i 0).val ∧ (i 0).val < d.val + 1; omega
    · change 0 ≤ (i 1).val ∧ (i 1).val < 0 + 16; omega
    · change 0 ≤ (i 2).val ∧ (i 2).val < 0 + 512; omega

theorem accMe_set (c : Dev nD) : (acc.access (meR c)).set = set32 c := (View.set_slice_whole _ _).trans (rect32_set _ c (k0_off2_eq c) _)
theorem outMe_set (c : Dev nD) : (outr.access (meR c)).set = set32 c := (View.set_slice_whole _ _).trans (rect32_set _ c (k0_off2_eq c) _)
theorem outR_set (c : Dev nD) (o : Fin 31) : (outr.access (outR c o)).set = set32 (peer c o) :=
  (View.set_slice_whole _ _).trans (rect32_set _ (peer c o) (out_off c o) _)
theorem com2R_set (t : Fin 31) : (com2.access (slotR t)).set = (slot2 t).view.set := (View.set_reshape _ _).symm

theorem accMe_emb (c : Dev nD) (x : S1x16x512.Idx) : (acc.access (meR c)).emb x = ix3 (n0 := 32) (n1 := 16) (n2 := 512) c (x 1) (x 2) := unit_emb32 _ c (k0_off2_eq c) _ x
theorem outMe_emb (c : Dev nD) (x : S1x16x512.Idx) : (outr.access (meR c)).emb x = ix3 (n0 := 32) (n1 := 16) (n2 := 512) c (x 1) (x 2) := unit_emb32 _ c (k0_off2_eq c) _ x
theorem outR_emb (c : Dev nD) (o : Fin 31) (x : S1x16x512.Idx) : (outr.access (outR c o)).emb x = ix3 (n0 := 32) (n1 := 16) (n2 := 512) (peer c o) (x 1) (x 2) := unit_emb32 _ (peer c o) (out_off c o) _ x

/-- Loading the device's own chunk. -/
theorem read_me (c : Dev nD) (f : Vec F S32x16x512 .bf16) : (acc.access (meR c)).read (Elt F) f = chunkOf f c := by
  funext x
  exact congrArg f (accMe_emb c x)
/-- Loading one slot of the gather's arrivals. -/
theorem read_slot2 (c : Dev nD) (t : Fin 31) : (com2.access (slotR t)).read (Elt F) (com2V A c) = sumV A (peer c t) := by
  funext x
  refine (congrArg (com2V A c) (unit_emb31 t x)).trans ?_
  exact congrArg (sumV A (peer c t)) (piece_idx x)
/-- The send buffer's own chunk after the reduced chunk is stored. -/
theorem write_me (c : Dev nD) (i) (hi : i ∈ (acc.access (meR c)).set) :
    (acc.access (meR c)).write (Elt F) (A c) (k0_pay53 (chunkOf (A c) c) (com1V A c)) Finset.univ i = accB A c i := by
  obtain ⟨x, -, rfl⟩ := Finset.mem_map.1 hi
  refine (View.write_emb_of_mem _ _ (Finset.mem_univ x)).trans ?_
  rw [accMe_emb]
  change _ = if c.val = c.val then sumV A c (ix3 (n0 := 1) (n1 := 16) (n2 := 512) 0 (x 1) (x 2)) else _
  rw [if_pos rfl, piece_idx]
  rfl
/-- The result's own chunk after it is stored. -/
theorem write_outMe (c : Dev nD) (f : Vec F S32x16x512 .f32) (i) (hi : i ∈ set32 c) :
    (outr.access (meR c)).write (Elt F) f (k0_pay54 (chunkOf (A c) c) (com1V A c)) Finset.univ i = outV A c i := by
  rw [← outMe_set] at hi
  obtain ⟨x, -, rfl⟩ := Finset.mem_map.1 hi
  refine (View.write_emb_of_mem _ _ (Finset.mem_univ x)).trans ?_
  rw [outMe_emb]
  change _ = if c.val = c.val then k0_pay54 (chunkOf (A c) c) (com1V A c) (ix3 (n0 := 1) (n1 := 16) (n2 := 512) 0 (x 1) (x 2)) else _
  rw [if_pos rfl, piece_idx]
  rfl
/-- A peer's chunk of the result after it is stored. -/
theorem write_outR (c : Dev nD) (o : Fin 31) (f : Vec F S32x16x512 .f32) (i) (hi : i ∈ set32 (peer c o)) :
    (outr.access (outR c o)).write (Elt F) f (k0_pay55 (sumV A (peer c o))) Finset.univ i = outV A c i := by
  rw [← outR_set] at hi
  obtain ⟨x, -, rfl⟩ := Finset.mem_map.1 hi
  refine (View.write_emb_of_mem _ _ (Finset.mem_univ x)).trans ?_
  rw [outR_emb]
  change _ = if (peer c o).val = c.val then _ else k0_pay55 (sumV A (peer c o)) (ix3 (n0 := 1) (n1 := 16) (n2 := 512) 0 (x 1) (x 2))
  rw [if_neg fun e => peer_ne c o (Fin.ext e), piece_idx]
  rfl
/-- and the rest of the result is untouched. -/
theorem write_outR_other (c : Dev nD) (o : Fin 31) (f : Vec F S32x16x512 .f32) (w : Vec F S1x16x512 .f32) (i) (hi : i ∉ set32 (peer c o)) :
    (outr.access (outR c o)).write (Elt F) f w Finset.univ i = f i :=
  View.write_of_not_mem (v := (outr.access (outR c o))) _ _ _ fun h => hi (by rw [View.setOn_univ, outR_set] at h; exact h)

end Cert.KernelIdeal.Ring

end
-- ==== Proof.KernelIdeal.Steps.lean ====
module

public import proofs.«01_k».proof.Proof.KernelIdeal.Schedule

/-! The stretches of the exchange, each a loop of one remote operation: the signals, the wait at the
barrier, the sends and arrivals of the reduction, the sends of the gather, and the departures. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (A : Dev nD → Vec F S32x16x512 .bf16) (K : GSem nD τ sig → ℕ)

/-! ### The persistent records -/

/-- The transfer semaphores by family and place. -/
abbrev famS (p : Fin 4 × Fin 31) : DmaSem sig := ⟨8 + 31 * p.1.val + p.2.val, by have := p.1.isLt; have := p.2.isLt; show _ < 132; omega⟩
theorem famS_s1 (o : Fin 31) : famS (0, o) = s1 o := Fin.ext (by show 8 + 31 * 0 + o.val = 8 + o.val; omega)
theorem famS_r1 (o : Fin 31) : famS (1, o) = r1 o := Fin.ext (by show 8 + 31 * 1 + o.val = 39 + o.val; omega)
theorem famS_s2 (o : Fin 31) : famS (2, o) = s2 o := Fin.ext (by show 8 + 31 * 2 + o.val = 70 + o.val; omega)
theorem famS_r2 (o : Fin 31) : famS (3, o) = r2 o := Fin.ext (by show 8 + 31 * 3 + o.val = 101 + o.val; omega)

/-- The invariant of one cell. -/
abbrev cinv (g : GSem nD τ sig) : sProp (MM F) := cellInv ER (sched A) (K g) g

/-- The invariants of every cell of every device, and that the barriers are open. -/
def records : sProp (MM F) :=
  bigSep Finset.univ fun c : Dev nD => iprop(cinv A K (barC c) ∗ reached ER (barC c) 0 ∗ bigSep Finset.univ fun p => cinv A K (dmaC c (famS p)))

instance records_persistent : Persistent (records A K) := by
  unfold records
  infer_instance

theorem records_at (c : Dev nD) : records A K ⊢ iprop(cinv A K (barC c) ∗ reached ER (barC c) 0 ∗ bigSep Finset.univ fun p => cinv A K (dmaC c (famS p))) := by
  unfold records
  exact bigSep_elim (Finset.mem_univ c)
theorem inv_bar (c : Dev nD) : records A K ⊢ cinv A K (barC c) := by
  iintro H
  ihave H := (records_at A K c) $$ H
  icases H with ⟨H, -, -⟩; iexact H
theorem reach_bar (c : Dev nD) : records A K ⊢ reached ER (barC c) 0 := by
  iintro H
  ihave H := (records_at A K c) $$ H
  icases H with ⟨-, H, -⟩; iexact H
theorem inv_fam (c : Dev nD) (p : Fin 4 × Fin 31) : records A K ⊢ cinv A K (dmaC c (famS p)) := by
  iintro H
  ihave H := (records_at A K c) $$ H
  icases H with ⟨-, -, H⟩
  ihave H := (show (bigSep Finset.univ fun p => cinv A K (dmaC c (famS p))) ⊢ cinv A K (dmaC c (famS p)) from bigSep_elim (Finset.mem_univ p)) $$ H
  iexact H
theorem inv_s1 (c : Dev nD) (o : Fin 31) : records A K ⊢ cinv A K (dmaC c (s1 o)) := by rw [← famS_s1]; exact inv_fam A K c (0, o)
theorem inv_r1 (c : Dev nD) (o : Fin 31) : records A K ⊢ cinv A K (dmaC c (r1 o)) := by rw [← famS_r1]; exact inv_fam A K c (1, o)
theorem inv_s2 (c : Dev nD) (o : Fin 31) : records A K ⊢ cinv A K (dmaC c (s2 o)) := by rw [← famS_s2]; exact inv_fam A K c (2, o)
theorem inv_r2 (c : Dev nD) (o : Fin 31) : records A K ⊢ cinv A K (dmaC c (r2 o)) := by rw [← famS_r2]; exact inv_fam A K c (3, o)

/-! ### The signals -/

/-- The signals pay the barriers of all peers, handing over the device's own slots. -/
theorem wp_signals (c : Dev nD) (rest : CellTallies nD τ sig Bool) (W : Waits sig Bool) (Q : PUnit → sProp (MM F)) :
    iprop(records A K ∗ owes (c : Thread nD τ) (debt (dueB c) 0 + rest) W
        ∗ (bigSep Finset.univ fun o => iprop(dutyTok ER (barC (peer c o)) 0 o ∗ barPay (F := F) c o))
        ∗ (owes (c : Thread nD τ) rest W -∗ Q ⟨⟩))
      ⊢ wp frame (wpE defs₀ 𝒱₀ (c : Thread nD τ) none) Set.univ (loop 31 (signalOne c)) Q := by
  refine BIBase.Entails.trans ?_ (wp_loop c 31 (signalOne c) (fun k => iprop(records A K ∗ owes (c : Thread nD τ) (debt (dueB c) k + rest) W))
    (fun o => iprop(dutyTok ER (barC (peer c o)) 0 o ∗ barPay (F := F) c o)) (fun _ => iprop(emp)) (fun k Q => ?_) Q)
  · iintro ⟨#HI, HO, Ht, HK⟩
    isplitl [HO]
    · isplitr; · iexact HI
      iexact HO
    isplitl [Ht]; · iexact Ht
    rw [debt_end, zero_add]
    iintro ⟨⟨-, HO⟩, -⟩
    iapply HK
    iexact HO
  · iintro ⟨⟨#HI, HO⟩, ⟨Ht, Hp⟩, HK⟩
    unfold signalOne semSignalWord
    iapply (Rounds.wp_signal 𝒱₀ ER (sched A) (c : Thread nD τ) none (dst := (peer c k : Thread nD τ)) (sem := bar) (r := 0) (d := k) (κ := K (barC (peer c k)))
        (by rw [duties_bar]; exact Finset.mem_univ _) ((amount_bar A (peer c k) k).trans (by decide)) true (debt (dueB c) (k.val + 1) + rest)
        ((congrArg (· + rest) (debt_step (dueB c) k)).trans (add_right_comm _ _ _)))
      $$ [HO Ht Hp]
    · isplitr; · iapply (inv_bar A K (peer c k)); iexact HI
      isplitl [HO]; · iexact HO
      isplitl [Ht]; · iexact Ht
      isplitl [Hp]
      · rw [payload_bar, peer_rev]; iexact Hp
      · iapply (reach_bar A K (peer c k)); iexact HI
    iintro HO
    rw [wp_ret]
    imodintro
    iapply HK
    isplitl [HO]
    · isplitr; · iexact HI
      iexact HO
    iempintro

/-- The wait at the barrier takes the slots of every peer. -/
theorem wp_barrier (c : Dev nD) (O : CellTallies nD τ sig Bool) (hO : Above 2 O) (W : Waits sig Bool) (Q : PUnit → sProp (MM F)) :
    iprop(records A K ∗ levAts L lv ∗ owes (c : Thread nD τ) O W ∗ cred (tallyAt (barC c) true 31) ∗ atPos ER (barC c) 0 ∅ 0
        ∗ ((∃ W', owes (c : Thread nD τ) O W') ∗ atPos ER (barC c) 1 ∅ 0 ∗ (bigSep Finset.univ fun o => barPay (F := F) (peer c o) (rev o)) -∗ Q ⟨⟩))
      ⊢ wp frame (wpE defs₀ 𝒱₀ (c : Thread nD τ) none) Set.univ (semWaitWord bar 31#32) Q := by
  iintro ⟨#HI, #Hlev, HO, Hc, Hat, HK⟩
  unfold semWaitWord
  iapply (Rounds.wp_wait_rest_token 𝒱₀ ER (sched A) (c : Thread nD τ) none (κ := K (barC c))
      (wpE_semWait_eq 𝒱₀ (c : Thread nD τ) none Set.univ) (Set.mem_univ _) true (O := O) (W := W) (R := 0) (m := 0) (T := ∅)
      ((Nat.zero_add _).trans (expect_bar A c).symm)) $$ [Hc HO Hat]
  · isplitr; · iapply (inv_bar A K c); iexact HI
    isplitl [Hc]; · iexact Hc
    isplitl [HO]; · iexact HO
    isplitr; · iapply (mayWait_above c (.reg bar) true O 1 (le_refl 1) hO); iexact Hlev
    iexact Hat
  iintro ⟨HO, Hat, -, Hpay⟩
  rw [wp_ret]
  imodintro
  iapply HK
  isplitl [HO]; · iexists _; iexact HO
  isplitl [Hat]; · iexact Hat
  iapply (Entails.of_eq (rest_bar A c)) $$ Hpay

/-! ### The reduction's transfers -/

/-- The sends of the reduction: every peer's chunk leaves for its slot. -/
theorem wp_sends (c : Dev nD) (rest : CellTallies nD τ sig Bool) (W : Waits sig Bool) (Q : PUnit → sProp (MM F)) :
    iprop(records A K ∗ owes (c : Thread nD τ) (debt (due1 c) 0 + rest) W
        ∗ (bigSep Finset.univ fun o => iprop(dutyTok ER (dmaC c (s1 o)) 0 0 ∗ reached ER (dmaC c (s1 o)) 0 ∗ dutyTok ER (dmaC (peer c o) (r1 (rev o))) 0 0
            ∗ reached ER (dmaC (peer c o) (r1 (rev o))) 0 ∗ holdA c o (A c) ∗ ∃ f, hold1 (peer c o) (rev o) f))
        ∗ (owes (c : Thread nD τ) rest W ∗ (bigSep Finset.univ fun o => cred (tallyAt (dmaC c (s1 o)) true N)) -∗ Q ⟨⟩))
      ⊢ wp frame (wpE defs₀ 𝒱₀ (c : Thread nD τ) none) Set.univ (loop 31 (sendOne c)) Q := by
  refine BIBase.Entails.trans ?_ (wp_loop c 31 (sendOne c) (fun k => iprop(records A K ∗ owes (c : Thread nD τ) (debt (due1 c) k + rest) W))
    (fun o => iprop(dutyTok ER (dmaC c (s1 o)) 0 0 ∗ reached ER (dmaC c (s1 o)) 0 ∗ dutyTok ER (dmaC (peer c o) (r1 (rev o))) 0 0
            ∗ reached ER (dmaC (peer c o) (r1 (rev o))) 0 ∗ holdA c o (A c) ∗ ∃ f, hold1 (peer c o) (rev o) f))
    (fun o => cred (tallyAt (dmaC c (s1 o)) true N)) (fun k Q => ?_) Q)
  · iintro ⟨#HI, HO, Ht, HK⟩
    isplitl [HO]
    · isplitr; · iexact HI
      iexact HO
    isplitl [Ht]; · iexact Ht
    rw [debt_end, zero_add]
    iintro ⟨⟨-, HO⟩, HS⟩
    iapply HK
    isplitl [HO]; · iexact HO
    iexact HS
  · iintro ⟨⟨#HI, HO⟩, ⟨Hts, Hrs, Htr, Hrr, Hsrc, ⟨%fd, Hdst⟩⟩, HK⟩
    unfold sendOne
    iapply (Rounds.wp_send_pointsTo 𝒱₀ ER (sched A) (c : Thread nD τ) none (c' := (peer c k : Thread nD τ)) (src := chunk c k) (dst := slot1 (rev k))
        (sS := .dma (s1 k)) (sem := .dma (r1 (rev k))) (q := fullShare) (fs := A c) (κ₁ := K (dmaC c (s1 k))) (κ₂ := K (dmaC (peer c k) (r1 (rev k))))
        (r₁ := 0) (r₂ := 0) (d₁ := 0) (d₂ := 0) (fd := fd)
        (by rw [duties_dma]; exact Finset.mem_singleton_self _) (by rw [duties_dma]; exact Finset.mem_singleton_self _)
        true true N rfl (amount_dma A c _ 0) (amount_dma A (peer c k) _ 0) (debt (due1 c) (k.val + 1) + rest)
        ((congrArg (· + rest) (debt_step (due1 c) k)).trans (add_right_comm _ _ _)) (W := W)
        (by rw [payload_s1])
        (by rw [payload_r1]; exact Entails.of_eq (pointsTo_congr fun i hi => land1 A c k fd i hi))) $$ [Hsrc Hdst HO Hts Hrs Htr Hrr]
    · isplitr; · iapply (inv_s1 A K c k); iexact HI
      isplitr; · iapply (inv_r1 A K (peer c k) (rev k)); iexact HI
      isplitl [Hsrc]; · iexact Hsrc
      isplitl [Hdst]; · iexact Hdst
      isplitl [HO]; · iexact HO
      isplitl [Hts]; · iexact Hts
      isplitl [Hrs]; · iexact Hrs
      isplitl [Htr]; · iexact Htr
      iexact Hrr
    iintro ⟨Hc, HO⟩
    rw [wp_ret]
    imodintro
    iapply HK
    isplitl [HO]
    · isplitr; · iexact HI
      iexact HO
    iexact Hc

/-- One wait on a transfer cell: what the transfer hands over is taken. -/
theorem wp_take (c : Dev nD) (s : DmaSem sig) (src dst : Memref sig .tc .vmem S16x512 .bf16) (hs : src.view.WordExact) (hd : dst.view.WordExact)
    (hN : dst.view.dmaCredit = N) (O : CellTallies nD τ sig Bool) (hO : (levAts L lv : sProp (MM F)) ⊢ MayWait (c : Thread nD τ) (.dma s) true O)
    (Q : PUnit → sProp (MM F)) :
    iprop(cinv A K (dmaC c s) ∗ levAts L lv ∗ (∃ W, owes (c : Thread nD τ) O W) ∗ cred (tallyAt (dmaC c s) true N) ∗ atPos ER (dmaC c s) 0 ∅ 0
        ∗ ((∃ W, owes (c : Thread nD τ) O W) ∗ atPos ER (dmaC c s) 1 ∅ 0 ∗ (sched A).payload (dmaC c s) 0 0 -∗ Q ⟨⟩))
      ⊢ wp frame (wpE defs₀ 𝒱₀ (c : Thread nD τ) none) Set.univ (Prog.lift (.waitDma2 s src dst hs hd) : P F PUnit) Q := by
  iintro ⟨#HI, #Hlev, ⟨%W, HO⟩, Hc, Hat, HK⟩
  iapply (Rounds.wp_wait_rest_token 𝒱₀ ER (sched A) (c : Thread nD τ) none (κ := K (dmaC c s))
      (wpE_waitDma2_eq (src := src) (dst := dst) 𝒱₀ (c : Thread nD τ) none Set.univ) (Set.mem_univ _) true (O := O) (W := W) (R := 0) (m := 0) (T := ∅)
      ((Nat.zero_add _).trans (hN.trans (expect_dma A c s).symm))) $$ [Hc HO Hat]
  · isplitr; · iexact HI
    isplitl [Hc]; · rw [hN]; iexact Hc
    isplitl [HO]; · iexact HO
    isplitr; · iapply hO; iexact Hlev
    iexact Hat
  iintro ⟨HO, Hat, -, Hpay⟩
  rw [wp_ret]
  imodintro
  iapply HK
  isplitl [HO]; · iexists _; iexact HO
  isplitl [Hat]; · iexact Hat
  iapply (Entails.of_eq (rest_dma A c s)) $$ Hpay

/-- With nothing owed every wait is allowed. -/
theorem mayWait_none (c : Dev nD) (sm : SemLoc sig) : (levAts L lv : sProp (MM F)) ⊢ MayWait (c : Thread nD τ) sm true 0 := by
  rw [MayWait_zero]
  iintro -
  iempintro

/-- The arrivals of the reduction fill the slots with the peers' chunks. -/
theorem wp_recvs (c : Dev nD) (O : CellTallies nD τ sig Bool) (hO : Above 3 O) (W : Waits sig Bool) (Q : PUnit → sProp (MM F)) :
    iprop(records A K ∗ levAts L lv ∗ owes (c : Thread nD τ) O W
        ∗ (bigSep Finset.univ fun o => iprop(cred (tallyAt (dmaC c (r1 (rev o))) true N) ∗ atPos ER (dmaC c (r1 (rev o))) 0 ∅ 0))
        ∗ ((∃ W, owes (c : Thread nD τ) O W) ∗ (bigSep Finset.univ fun o => iprop(atPos ER (dmaC c (r1 (rev o))) 1 ∅ 0 ∗ hold1 c (rev o) (com1V A c))) -∗ Q ⟨⟩))
      ⊢ wp frame (wpE defs₀ 𝒱₀ (c : Thread nD τ) none) Set.univ (loop 31 (recvOne c)) Q := by
  refine BIBase.Entails.trans ?_ (wp_loop c 31 (recvOne c) (fun _ => iprop(records A K ∗ levAts L lv ∗ ∃ W, owes (c : Thread nD τ) O W))
    (fun o => iprop(cred (tallyAt (dmaC c (r1 (rev o))) true N) ∗ atPos ER (dmaC c (r1 (rev o))) 0 ∅ 0))
    (fun o => iprop(atPos ER (dmaC c (r1 (rev o))) 1 ∅ 0 ∗ hold1 c (rev o) (com1V A c))) (fun k Q => ?_) Q)
  · iintro ⟨#HI, #Hlev, HO, Ht, HK⟩
    isplitl [HO]
    · isplitr; · iexact HI
      isplitr; · iexact Hlev
      iexists W; iexact HO
    isplitl [Ht]; · iexact Ht
    iintro ⟨⟨-, -, HO⟩, HS⟩
    iapply HK
    isplitl [HO]; · iexact HO
    iexact HS
  · iintro ⟨⟨#HI, #Hlev, HO⟩, ⟨Hc, Hat⟩, HK⟩
    unfold recvOne
    iapply (wp_take A K c (r1 (rev k)) (chunk c k) (slot1 (rev k)) _ _ rfl O (mayWait_above c _ true O 2 (by
      show (if famOf (r1 (rev k)) = 1 then 2 else if famOf (r1 (rev k)) = 3 then 3 else 0) ≤ 2
      rw [fam_r1]; decide) hO) Q)
    isplitr; · iapply (inv_r1 A K c (rev k)); iexact HI
    isplitr; · iexact Hlev
    isplitl [HO]; · iexact HO
    isplitl [Hc]; · iexact Hc
    isplitl [Hat]; · iexact Hat
    iintro ⟨HO, Hat, Hp⟩
    ihave Hp := (Entails.of_eq (payload_r1 A c (rev k) 0)) $$ Hp
    iapply HK
    isplitl [HO]
    · isplitr; · iexact HI
      isplitr; · iexact Hlev
      iexact HO
    isplitl [Hat]; · iexact Hat
    iexact Hp

/-! ### The gather's sends -/

/-- The sends of the gather: the device's summed chunk leaves for a slot of every peer. -/
theorem wp_spreads (c : Dev nD) (rest : CellTallies nD τ sig Bool) (W : Waits sig Bool) (Q : PUnit → sProp (MM F)) :
    iprop(records A K ∗ owes (c : Thread nD τ) (debt (due2 c) 0 + rest) W
        ∗ (bigSep Finset.univ fun o => iprop(dutyTok ER (dmaC c (s2 o)) 0 0 ∗ reached ER (dmaC c (s2 o)) 0 ∗ dutyTok ER (dmaC (peer c o) (r2 (rev o))) 0 0
            ∗ reached ER (dmaC (peer c o) (r2 (rev o))) 0 ∗ holdO c (Transfers.shareTok fullShare 31 o) (accB A c) ∗ ∃ f, hold2 (peer c o) (rev o) f))
        ∗ (owes (c : Thread nD τ) rest W ∗ (bigSep Finset.univ fun o => cred (tallyAt (dmaC c (s2 o)) true N)) -∗ Q ⟨⟩))
      ⊢ wp frame (wpE defs₀ 𝒱₀ (c : Thread nD τ) none) Set.univ (loop 31 (spreadOne c)) Q := by
  refine BIBase.Entails.trans ?_ (wp_loop c 31 (spreadOne c) (fun k => iprop(records A K ∗ owes (c : Thread nD τ) (debt (due2 c) k + rest) W))
    (fun o => iprop(dutyTok ER (dmaC c (s2 o)) 0 0 ∗ reached ER (dmaC c (s2 o)) 0 ∗ dutyTok ER (dmaC (peer c o) (r2 (rev o))) 0 0
            ∗ reached ER (dmaC (peer c o) (r2 (rev o))) 0 ∗ holdO c (Transfers.shareTok fullShare 31 o) (accB A c) ∗ ∃ f, hold2 (peer c o) (rev o) f))
    (fun o => cred (tallyAt (dmaC c (s2 o)) true N)) (fun k Q => ?_) Q)
  · iintro ⟨#HI, HO, Ht, HK⟩
    isplitl [HO]
    · isplitr; · iexact HI
      iexact HO
    isplitl [Ht]; · iexact Ht
    rw [debt_end, zero_add]
    iintro ⟨⟨-, HO⟩, HS⟩
    iapply HK
    isplitl [HO]; · iexact HO
    iexact HS
  · iintro ⟨⟨#HI, HO⟩, ⟨Hts, Hrs, Htr, Hrr, Hsrc, ⟨%fd, Hdst⟩⟩, HK⟩
    unfold spreadOne
    iapply (Rounds.wp_send_pointsTo 𝒱₀ ER (sched A) (c : Thread nD τ) none (c' := (peer c k : Thread nD τ)) (src := own c) (dst := slot2 (rev k))
        (sS := .dma (s2 k)) (sem := .dma (r2 (rev k))) (q := Transfers.shareTok fullShare 31 k) (fs := accB A c) (κ₁ := K (dmaC c (s2 k))) (κ₂ := K (dmaC (peer c k) (r2 (rev k))))
        (r₁ := 0) (r₂ := 0) (d₁ := 0) (d₂ := 0) (fd := fd)
        (by rw [duties_dma]; exact Finset.mem_singleton_self _) (by rw [duties_dma]; exact Finset.mem_singleton_self _)
        true true N rfl (amount_dma A c _ 0) (amount_dma A (peer c k) _ 0) (debt (due2 c) (k.val + 1) + rest)
        ((congrArg (· + rest) (debt_step (due2 c) k)).trans (add_right_comm _ _ _)) (W := W)
        (by rw [payload_s2])
        (by rw [payload_r2]; exact Entails.of_eq (pointsTo_congr fun i hi => land2 A c k fd i hi))) $$ [Hsrc Hdst HO Hts Hrs Htr Hrr]
    · isplitr; · iapply (inv_s2 A K c k); iexact HI
      isplitr; · iapply (inv_r2 A K (peer c k) (rev k)); iexact HI
      isplitl [Hsrc]; · iexact Hsrc
      isplitl [Hdst]; · iexact Hdst
      isplitl [HO]; · iexact HO
      isplitl [Hts]; · iexact Hts
      isplitl [Hrs]; · iexact Hrs
      isplitl [Htr]; · iexact Htr
      iexact Hrr
    iintro ⟨Hc, HO⟩
    rw [wp_ret]
    imodintro
    iapply HK
    isplitl [HO]
    · isplitr; · iexact HI
      iexact HO
    iexact Hc

/-! ### The departures -/

/-- The departures of the reduction's sends give the chunks back. -/
theorem wp_departs (c : Dev nD) (Q : PUnit → sProp (MM F)) :
    iprop(records A K ∗ levAts L lv ∗ (∃ W, owes (c : Thread nD τ) 0 W)
        ∗ (bigSep Finset.univ fun o => iprop(cred (tallyAt (dmaC c (s1 o)) true N) ∗ atPos ER (dmaC c (s1 o)) 0 ∅ 0))
        ∗ ((∃ W, owes (c : Thread nD τ) 0 W) ∗ (bigSep Finset.univ fun o => iprop(atPos ER (dmaC c (s1 o)) 1 ∅ 0 ∗ holdA c o (A c))) -∗ Q ⟨⟩))
      ⊢ wp frame (wpE defs₀ 𝒱₀ (c : Thread nD τ) none) Set.univ (loop 31 (sentOne c)) Q := by
  refine BIBase.Entails.trans ?_ (wp_loop c 31 (sentOne c) (fun _ => iprop(records A K ∗ levAts L lv ∗ ∃ W, owes (c : Thread nD τ) 0 W))
    (fun o => iprop(cred (tallyAt (dmaC c (s1 o)) true N) ∗ atPos ER (dmaC c (s1 o)) 0 ∅ 0))
    (fun o => iprop(atPos ER (dmaC c (s1 o)) 1 ∅ 0 ∗ holdA c o (A c))) (fun k Q => ?_) Q)
  · iintro ⟨#HI, #Hlev, HO, Ht, HK⟩
    isplitl [HO]
    · isplitr; · iexact HI
      isplitr; · iexact Hlev
      iexact HO
    isplitl [Ht]; · iexact Ht
    iintro ⟨⟨-, -, HO⟩, HS⟩
    iapply HK
    isplitl [HO]; · iexact HO
    iexact HS
  · iintro ⟨⟨#HI, #Hlev, HO⟩, ⟨Hc, Hat⟩, HK⟩
    unfold sentOne
    iapply (wp_take A K c (s1 k) (slot1 (rev k)) (chunk c k) _ _ rfl 0 (mayWait_none c _) Q)
    isplitr; · iapply (inv_s1 A K c k); iexact HI
    isplitr; · iexact Hlev
    isplitl [HO]; · iexact HO
    isplitl [Hc]; · iexact Hc
    isplitl [Hat]; · iexact Hat
    iintro ⟨HO, Hat, Hp⟩
    ihave Hp := (Entails.of_eq (payload_s1 A c k 0)) $$ Hp
    iapply HK
    isplitl [HO]
    · isplitr; · iexact HI
      isplitr; · iexact Hlev
      iexact HO
    isplitl [Hat]; · iexact Hat
    iexact Hp

/-- The departures of the gather's sends give the shares of the summed chunk back. -/
theorem wp_departs2 (c : Dev nD) (Q : PUnit → sProp (MM F)) :
    iprop(records A K ∗ levAts L lv ∗ (∃ W, owes (c : Thread nD τ) 0 W)
        ∗ (bigSep Finset.univ fun o => iprop(cred (tallyAt (dmaC c (s2 o)) true N) ∗ atPos ER (dmaC c (s2 o)) 0 ∅ 0))
        ∗ ((∃ W, owes (c : Thread nD τ) 0 W) ∗ (bigSep Finset.univ fun o => iprop(atPos ER (dmaC c (s2 o)) 1 ∅ 0 ∗ holdO c (Transfers.shareTok fullShare 31 o) (accB A c))) -∗ Q ⟨⟩))
      ⊢ wp frame (wpE defs₀ 𝒱₀ (c : Thread nD τ) none) Set.univ (loop 31 (spreadDone c)) Q := by
  refine BIBase.Entails.trans ?_ (wp_loop c 31 (spreadDone c) (fun _ => iprop(records A K ∗ levAts L lv ∗ ∃ W, owes (c : Thread nD τ) 0 W))
    (fun o => iprop(cred (tallyAt (dmaC c (s2 o)) true N) ∗ atPos ER (dmaC c (s2 o)) 0 ∅ 0))
    (fun o => iprop(atPos ER (dmaC c (s2 o)) 1 ∅ 0 ∗ holdO c (Transfers.shareTok fullShare 31 o) (accB A c))) (fun k Q => ?_) Q)
  · iintro ⟨#HI, #Hlev, HO, Ht, HK⟩
    isplitl [HO]
    · isplitr; · iexact HI
      isplitr; · iexact Hlev
      iexact HO
    isplitl [Ht]; · iexact Ht
    iintro ⟨⟨-, -, HO⟩, HS⟩
    iapply HK
    isplitl [HO]; · iexact HO
    iexact HS
  · iintro ⟨⟨#HI, #Hlev, HO⟩, ⟨Hc, Hat⟩, HK⟩
    unfold spreadDone
    iapply (wp_take A K c (s2 k) (slot2 (rev k)) (own c) _ _ rfl 0 (mayWait_none c _) Q)
    isplitr; · iapply (inv_s2 A K c k); iexact HI
    isplitr; · iexact Hlev
    isplitl [HO]; · iexact HO
    isplitl [Hc]; · iexact Hc
    isplitl [Hat]; · iexact Hat
    iintro ⟨HO, Hat, Hp⟩
    ihave Hp := (Entails.of_eq (payload_s2 A c k 0)) $$ Hp
    iapply HK
    isplitl [HO]
    · isplitr; · iexact HI
      isplitr; · iexact Hlev
      iexact HO
    isplitl [Hat]; · iexact Hat
    iexact Hp

end Cert.KernelIdeal.Ring

end
-- ==== Proof.KernelIdeal.Gather.lean ====
module

public import proofs.«01_k».proof.Proof.KernelIdeal.Pieces
public import proofs.«01_k».proof.Proof.KernelIdeal.Steps

/-! The stretches of the exchange that compute: storing the partial product into the send buffer, the
reduction of the device's own chunk, and the widening of the gathered chunks into the result. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (A : Dev nD → Vec F S32x16x512 .bf16) (K : GSem nD τ sig → ℕ)

/-- All of the send buffer. -/
abbrev accR : Rect S32x16x512 := Rect.unit (s := S32x16x512) ![0, 0, 0] S32x16x512.size inb_S32x16x512_S32x16x512_0_0_0
/-- All of the reduction's arrivals. -/
abbrev com1R : Rect S31x16x512 := Rect.unit (s := S31x16x512) ![0, 0, 0] S31x16x512.size inb_S31x16x512_S31x16x512_0_0_0

theorem zeros : (![0, 0, 0] : Fin 3 → ℕ) = fun _ => 0 := by decide
theorem read_com1 (f : Vec F S31x16x512 .bf16) : (com1.access com1R).read (Elt F) f = f := Memref.read_access_unit_zero (Elt F) cc0_scratch1 zeros _ f
theorem write_acc (f w : Vec F S32x16x512 .bf16) : (acc.access accR).write (Elt F) f w Finset.univ = w := Memref.write_access_unit_zero_univ (Elt F) cc0_scratch0 zeros _ f w

/-- Storing the partial product fills the send buffer with it, rounded and in chunks. -/
theorem wp_storeAcc (c : Dev nD) (v : FVec F S512x512 .f32) (f : Vec F S32x16x512 .bf16) (Q : PUnit → sProp (MM F)) :
    iprop((acc.view.loc (c : Thread nD τ) ↦{fullShare} f) ∗ ((acc.view.loc (c : Thread nD τ) ↦{fullShare} k0_pay51 v) -∗ Q ⟨⟩))
      ⊢ wp frame (wpE defs₀ 𝒱₀ (c : Thread nD τ) none) Set.univ (storeAcc v) Q := by
  unfold storeAcc
  iintro ⟨H, HK⟩
  iapply (wp_load_rect 𝒱₀ (c : Thread nD τ) none Set.univ (m := acc) (r := accR) (S := Finset.univ) (f := f) (Finset.subset_univ _)) $$ H
  iintro H
  iapply (wp_store 𝒱₀ (c : Thread nD τ) none Set.univ (m := acc) (r := accR) (S := Finset.univ) (f := f) (Finset.subset_univ _)) $$ H
  iintro H
  rw [wp_ret]
  imodintro
  iapply HK
  ihave H := (Entails.of_eq (congrArg (fun g => (acc.view.loc (c : Thread nD τ) ↦{fullShare} g : sProp (MM F))) (write_acc f (k0_pay51 v)))) $$ H
  iexact H

theorem hold_me (c : Dev nD) :
    ((acc.access (meR c)).loc (c : Thread nD τ) ↦[(own c).view.set]{fullShare} (acc.access (meR c)).write (Elt F) (A c) (k0_pay53 (chunkOf (A c) c) (com1V A c)) Finset.univ : sProp (MM F))
      = holdO c fullShare (accB A c) :=
  pointsTo_congr fun i hi => write_me A c i (((accMe_set c).trans (own_set c).symm).symm.subset hi)

/-- The reduction: the own chunk is replaced by the sum in the send buffer, and kept in the result. -/
theorem wp_reduce (c : Dev nD) (fo : Vec F S32x16x512 .f32) (Q : PUnit → sProp (MM F)) :
    iprop(holdO c fullShare (A c) ∗ (com1.view.loc (c : Thread nD τ) ↦{fullShare} com1V A c) ∗ (outr.view.loc (c : Thread nD τ) ↦{fullShare} fo)
        ∗ (holdO c fullShare (accB A c) ∗ (com1.view.loc (c : Thread nD τ) ↦{fullShare} com1V A c)
            ∗ (∃ f : Vec F S32x16x512 .f32, ⌜∀ i ∈ set32 c, f i = outV A c i⌝ ∗ outr.view.loc (c : Thread nD τ) ↦{fullShare} f) -∗ Q ⟨⟩))
      ⊢ wp frame (wpE defs₀ 𝒱₀ (c : Thread nD τ) none) Set.univ (reduce c) Q := by
  have hS : (acc.access (meR c)).set = (own c).view.set := (accMe_set c).trans (own_set c).symm
  unfold reduce
  iintro ⟨HA, H1, Ho, HK⟩
  iapply (wp_load_rect 𝒱₀ (c : Thread nD τ) none Set.univ (m := acc) (r := meR c) (S := (own c).view.set) (f := A c) (le_of_eq hS)) $$ HA
  iintro HA
  rw [read_me]
  iapply (wp_load_rect 𝒱₀ (c : Thread nD τ) none Set.univ (m := com1) (r := com1R) (S := Finset.univ) (f := com1V A c) (Finset.subset_univ _)) $$ H1
  iintro H1
  rw [read_com1]
  iapply (wp_load_rect 𝒱₀ (c : Thread nD τ) none Set.univ (m := acc) (r := meR c) (S := (own c).view.set) (f := A c) (le_of_eq hS)) $$ HA
  iintro HA
  iapply (wp_store 𝒱₀ (c : Thread nD τ) none Set.univ (m := acc) (r := meR c) (S := (own c).view.set) (f := A c) (le_of_eq ((View.setOn_univ _).trans hS))) $$ HA
  iintro HA
  iapply (wp_load_rect 𝒱₀ (c : Thread nD τ) none Set.univ (m := outr) (r := meR c) (S := Finset.univ) (f := fo) (Finset.subset_univ _)) $$ Ho
  iintro Ho
  iapply (wp_store 𝒱₀ (c : Thread nD τ) none Set.univ (m := outr) (r := meR c) (S := Finset.univ) (f := fo) (Finset.subset_univ _)) $$ Ho
  iintro Ho
  rw [wp_ret]
  imodintro
  iapply HK
  isplitl [HA]
  · iapply (Entails.of_eq (hold_me A c)) $$ HA
  isplitl [H1]; · iexact H1
  iexists _
  isplitr; · ipureintro; exact fun i hi => write_outMe A c fo i hi
  iexact Ho

/-- The gather: every arrival is widened into its chunk of the result. -/
theorem wp_gathers (c : Dev nD) (fo : Vec F S32x16x512 .f32) (hfo : ∀ i ∈ set32 c, fo i = outV A c i) (W : Waits sig Bool) (Q : PUnit → sProp (MM F)) :
    iprop(records A K ∗ levAts L lv ∗ owes (c : Thread nD τ) 0 W ∗ (outr.view.loc (c : Thread nD τ) ↦{fullShare} fo)
        ∗ (bigSep Finset.univ fun t => iprop(cred (tallyAt (dmaC c (r2 t)) true N) ∗ atPos ER (dmaC c (r2 t)) 0 ∅ 0))
        ∗ ((∃ W, owes (c : Thread nD τ) 0 W) ∗ (outr.view.loc (c : Thread nD τ) ↦{fullShare} outV A c)
            ∗ (bigSep Finset.univ fun t => iprop(atPos ER (dmaC c (r2 t)) 1 ∅ 0 ∗ hold2 c t (com2V A c))) -∗ Q ⟨⟩))
      ⊢ wp frame (wpE defs₀ 𝒱₀ (c : Thread nD τ) none) Set.univ (loop 31 (gatherOne c)) Q := by
  refine BIBase.Entails.trans ?_ (wp_loop c 31 (gatherOne c)
    (fun k => iprop(records A K ∗ levAts L lv ∗ (∃ W, owes (c : Thread nD τ) 0 W)
      ∗ ∃ f : Vec F S32x16x512 .f32, ⌜∀ i, (i ∈ set32 c ∨ ∃ t : Fin 31, t.val < k ∧ i ∈ set32 (peer c t)) → f i = outV A c i⌝ ∗ outr.view.loc (c : Thread nD τ) ↦{fullShare} f))
    (fun t => iprop(cred (tallyAt (dmaC c (r2 t)) true N) ∗ atPos ER (dmaC c (r2 t)) 0 ∅ 0))
    (fun t => iprop(atPos ER (dmaC c (r2 t)) 1 ∅ 0 ∗ hold2 c t (com2V A c))) (fun k Q => ?_) Q)
  · iintro ⟨#HI, #Hlev, HO, Ho, Ht, HK⟩
    isplitl [HO Ho]
    · isplitr; · iexact HI
      isplitr; · iexact Hlev
      isplitl [HO]; · iexists W; iexact HO
      iexists fo
      isplitr
      · ipureintro
        rintro i (h | ⟨t, ht, -⟩)
        · exact hfo i h
        · exact absurd ht (Nat.not_lt_zero _)
      iexact Ho
    isplitl [Ht]; · iexact Ht
    iintro ⟨⟨-, -, HO, ⟨%f, %hf, Ho⟩⟩, HS⟩
    iapply HK
    isplitl [HO]; · iexact HO
    isplitl [Ho]
    · rw [show f = outV A c from funext fun i => hf i (by
        by_cases h : i ∈ set32 c
        · exact .inl h
        · have : i ∈ Finset.univ \ set32 c := Finset.mem_sdiff.2 ⟨Finset.mem_univ _, h⟩
          rw [set32_cover] at this
          obtain ⟨t, -, ht⟩ := Finset.mem_biUnion.1 this
          exact .inr ⟨t, t.isLt, ht⟩)]
      iexact Ho
    iexact HS
  · iintro ⟨⟨#HI, #Hlev, HO, ⟨%f, %hf, Ho⟩⟩, ⟨Hc, Hat⟩, HK⟩
    unfold gatherOne
    rw [wp_bind]
    iapply (wp_take A K c (r2 k) (own c) (slot2 k) _ _ rfl 0 (mayWait_none c _) _)
    isplitr; · iapply (inv_r2 A K c k); iexact HI
    isplitr; · iexact Hlev
    isplitl [HO]; · iexact HO
    isplitl [Hc]; · iexact Hc
    isplitl [Hat]; · iexact Hat
    iintro ⟨HO, Hat, Hp⟩
    ihave Hp := (Entails.of_eq (payload_r2 A c k 0)) $$ Hp
    iapply (wp_load_rect 𝒱₀ (c : Thread nD τ) none Set.univ (m := com2) (r := slotR k) (S := (slot2 k).view.set) (f := com2V A c) (le_of_eq (com2R_set k))) $$ Hp
    iintro Hp
    rw [read_slot2]
    iapply (wp_load_rect 𝒱₀ (c : Thread nD τ) none Set.univ (m := outr) (r := outR c k) (S := Finset.univ) (f := f) (Finset.subset_univ _)) $$ Ho
    iintro Ho
    iapply (wp_store 𝒱₀ (c : Thread nD τ) none Set.univ (m := outr) (r := outR c k) (S := Finset.univ) (f := f) (Finset.subset_univ _)) $$ Ho
    iintro Ho
    rw [wp_ret]
    imodintro
    iapply HK
    isplitl [HO Ho]
    · isplitr; · iexact HI
      isplitr; · iexact Hlev
      isplitl [HO]; · iexact HO
      iexists _
      isplitr
      · ipureintro
        intro i hi
        by_cases h : i ∈ set32 (peer c k)
        · exact write_outR A c k f i h
        · refine (write_outR_other c k f _ i h).trans (hf i ?_)
          rcases hi with hi | ⟨t, ht, hi⟩
          · exact .inl hi
          · refine .inr ⟨t, ?_, hi⟩
            rcases Nat.lt_succ_iff_lt_or_eq.1 ht with h' | h'
            · exact h'
            · exact absurd (Fin.ext h' ▸ hi) h
      iexact Ho
    isplitl [Hat]; · iexact Hat
    iexact Hp

end Cert.KernelIdeal.Ring

end
-- ==== Proof.KernelIdeal.Compute.lean ====
module

public import proofs.«01_k».proof.Proof.KernelIdeal.Body
public import Idealize.ShloMosaic.Lib.Pointwise
public import Idealize.ShloMosaic.Lib.Writes
public import Idealize.ShloMosaic.Lib.ViewIndex
public import Idealize.ShloMosaic.Lib.Exec.Geometry

/-! What one device computes locally, as a function of its operands: the device's share of the heads
selected from the keys and values, the attention of its heads, and its partial product. -/

@[expose] public section

noncomputable section

namespace Cert.KernelIdeal.Ring

open Idealize.ShloMosaic Idealize.ShloMosaic.TcCoe
open Cert.KernelIdeal Cert.KernelIdeal.Gen

variable {F : FTy → Type} [FloatOps F]

/-- Block `i` of the keys (or values): 4096 consecutive rows of both batches. -/
def blk (k : Vec F S2x16384x128 .f32) (i : Fin 4) : Vec F S1x2x4096x128 .f32 := fun x =>
  k (ix3 (n0 := 2) (n1 := 16384) (n2 := 128) (x 1) ⟨4096 * i.val + (x 2).val, by have := (x 2).isLt; have := i.isLt; change (x 2).val < 4096 at *; omega⟩ (x 3))

/-- The selection matrix of a device. -/
def selM (c : Dev nD) : FVec F S128x256 .bf16 :=
  k0_pay4 (iota .tc S128x256 32 [0] iota_S128x256_d0_w32) (Scalar.muli 4#32 (meWord c)) k0_pay1 k0_pay2 k0_pay3

/-- The rows of batch `b` selected from block `i`. -/
def pieceV (c : Dev nD) (k : Vec F S2x16384x128 .f32) (b : Fin 2) (i : Fin 4) : Vec F S1x64x256 .bf16 :=
  if b = 0 then k0_pay8 (selM c) k0_pay5 (blk k i) else k0_pay10 (k0_pay9 (selM c) k0_pay5 (blk k i))

/-- All the rows selected. -/
def cacheV (c : Dev nD) (k : Vec F S2x16384x128 .f32) : Vec F S2x256x256 .bf16 := fun y =>
  pieceV c k (y 0) ⟨(y 1).val / 64, by have : (y 1).val < 256 := (y 1).isLt; omega⟩
    (ix3 (n0 := 1) (n1 := 64) (n2 := 256) 0 ⟨(y 1).val % 64, Nat.mod_lt _ (by decide)⟩ (y 2))

/-- The selected rows of batch `b`, columns of one head starting at `h`. -/
def headV (c : Dev nD) (k : Vec F S2x16384x128 .f32) (b : Fin 2) (h : Fin 4) : Vec F S1x256x64 .bf16 := fun x =>
  cacheV c k (ix3 (n0 := 2) (n1 := 256) (n2 := 256) b (x 1) ⟨64 * h.val + (x 2).val, by have : (x 2).val < 64 := (x 2).isLt; have := h.isLt; omega⟩)

/-- The mask of the attention. -/
def maskV : IVec S256x256 1 :=
  k0_pay39 k0_pay36 (iota .tc S256x256 32 [1] iota_S256x256_d1_w32) 64#32 k0_pay37 k0_pay38 1#32 0#32

/-- A device's partial product. -/
def partV (c : Dev nD) (x : Vec F S2x256x512 .f32) (wq : Vec F S512x256 .f32) (k v : Vec F S2x16384x128 .f32) (wo : Vec F S256x512 .f32) :
    FVec F S512x512 .f32 :=
  k0_pay50 (k0_pay6 x wq) maskV
    (k0_pay45 maskV
      (k0_pay40 (k0_pay6 x wq) k0_pay36 (iota .tc S256x256 32 [1] iota_S256x256_d1_w32) 64#32 k0_pay37 k0_pay38 1#32 0#32 (headV c k 0 0) (headV c v 0 0))
      (k0_pay42 maskV (k0_pay41 (k0_pay6 x wq) (headV c k 0 1)) (headV c v 0 1))
      (k0_pay43 (k0_pay6 x wq) maskV (headV c k 0 2) (headV c v 0 2))
      (k0_pay44 (k0_pay6 x wq)) (headV c k 0 3) (headV c v 0 3))
    (k0_pay47 (k0_pay46 (k0_pay6 x wq) maskV (headV c k 1 0)) (headV c v 1 0))
    (k0_pay48 (k0_pay6 x wq) maskV (headV c k 1 1) (headV c v 1 1))
    (k0_pay49 (k0_pay6 x wq) maskV (headV c k 1 2)) (headV c v 1 2) (headV c k 1 3) (headV c v 1 3) wo

/-! ### Reading the staged blocks back -/

/-- A slot of the staging buffer read after that slot was written holds what was written. -/
theorem slot_read_same (M : Memref sig .tc .vmem S2x2x4096x128 .f32) (n : ℕ) (h : ∀ a, (![n, 0, 0, 0] : Fin 4 → Nat) a + S1x2x4096x128.size a ≤ S2x2x4096x128.size a)
    (hs) (h') (f) (d : S2x4096x128.Idx → Elt F .f32) :
    View.readAt (Elt F) M.view (Rect.unit (s := S2x2x4096x128) ![n, 0, 0, 0] S1x2x4096x128.size h).toLoadRect
      (View.write (Elt F) ((M.slice (Rect.unit (s := S2x2x4096x128) ![n, 0, 0, 0] S1x2x4096x128.size h) hs).squeeze S2x4096x128 h').view f d Finset.univ)
      = fun x => d (ix3 (x 1) (x 2) (x 3)) := by
  rw [View.readAt_rect]
  refine (congrArg _ (View.write_reshape_univ (M.view.slice (Rect.unit (s := S2x2x4096x128) ![n, 0, 0, 0] S1x2x4096x128.size h)) (s' := S2x4096x128) _ f d)).trans ?_
  rw [View.read_write_univ]
  funext x
  refine congrArg d ((Equiv.symm_apply_eq _).2 ?_)
  have h0 : x 0 = (0 : Fin 1) := Fin.ext (by have : (x 0).val < 1 := (x 0).isLt; change (x 0).val = 0; omega)
  refine Eq.trans ?_ (Shape.reshapeEquiv_cons_one (n := 3) (d := ![2, 4096, 128]) _ (ix3 (x 1) (x 2) (x 3))).symm
  funext a
  fin_cases a
  · exact h0
  · rfl
  · rfl
  · rfl

/-- A slot of the staging buffer is kept by a write to the other slot. -/
theorem slot_read_other (M : Memref sig .tc .vmem S2x2x4096x128 .f32) (n m : ℕ) (hnm : n ≠ m) (h : ∀ a, (![n, 0, 0, 0] : Fin 4 → Nat) a + S1x2x4096x128.size a ≤ S2x2x4096x128.size a)
    (hm : ∀ a, (![m, 0, 0, 0] : Fin 4 → Nat) a + S1x2x4096x128.size a ≤ S2x2x4096x128.size a)
    (hs) (h') (f) (d : S2x4096x128.Idx → Elt F .f32) :
    View.readAt (Elt F) M.view (Rect.unit (s := S2x2x4096x128) ![n, 0, 0, 0] S1x2x4096x128.size h).toLoadRect
      (View.write (Elt F) ((M.slice (Rect.unit (s := S2x2x4096x128) ![m, 0, 0, 0] S1x2x4096x128.size hm) hs).squeeze S2x4096x128 h').view f d Finset.univ)
      = View.readAt (Elt F) M.view (Rect.unit (s := S2x2x4096x128) ![n, 0, 0, 0] S1x2x4096x128.size h).toLoadRect f := by
  refine (congrArg _ (View.write_reshape_univ (M.view.slice (Rect.unit (s := S2x2x4096x128) ![m, 0, 0, 0] S1x2x4096x128.size hm)) (s' := S2x4096x128) _ f d)).trans ?_
  rw [View.readAt_rect, View.readAt_rect]
  refine View.read_slice_write_slice_of_disjoint (v := M.view) _ _ f _ _ ?_
  rw [View.setOn_univ]
  refine View.disjoint_slice ?_
  refine Finset.disjoint_left.2 fun j hn hj => ?_
  have h1 := Rect.mem_set_unit.1 hn 0
  have h0 := Rect.mem_set_unit.1 hj 0
  have a1 : m ≤ (j 0).val := h0.1
  have a2 : (j 0).val < m + 1 := h0.2
  have a3 : n ≤ (j 0).val := h1.1
  have a4 : (j 0).val < n + 1 := h1.2
  omega

/-- A block of the keys as a transfer reads it. -/
theorem src_read (M : Memref sig .tc .hbm S2x16384x128 .f32) (n : ℕ) (h : ∀ a, (![0, n, 0] : Fin 3 → Nat) a + S2x4096x128.size a ≤ S2x16384x128.size a) (hs) (k)
    (y : S2x4096x128.Idx) (hn : n + (y 1).val < 16384) :
    ReadAs.same.apply (View.read (Elt F) (M.slice (Rect.unit (s := S2x16384x128) ![0, n, 0] S2x4096x128.size h) hs).view k) y
      = M.view.read (Elt F) k (ix3 (n0 := 2) (n1 := 16384) (n2 := 128) (y 0) ⟨n + (y 1).val, hn⟩ (y 2)) := by
  change M.view.read (Elt F) k ((Rect.unit (s := S2x16384x128) ![0, n, 0] S2x4096x128.size h).emb y) = _
  refine congrArg _ (Shape.idx3_ext ?_ ?_ ?_)
  · change 0 + 1 * (y 0).val = (y 0).val; omega
  · change n + 1 * (y 1).val = n + (y 1).val; omega
  · change 0 + 1 * (y 2).val = (y 2).val; omega

/-- A piece of the selected rows lies where the whole has it. -/
theorem piece_at (c : Dev nD) (k : Vec F S2x16384x128 .f32) (b i : ℕ) (hb : b < 2) (hi : i / 64 < 4) (hi' : i % 64 = 0) (h : ∀ a, (![b, i, 0] : Fin 3 → Nat) a + S1x64x256.size a ≤ S2x256x256.size a)
    (w : Vec F S1x64x256 .bf16) (hw : w = pieceV c k ⟨b, hb⟩ ⟨i / 64, hi⟩) (x : S1x64x256.Idx) :
    w x = cacheV c k ((Rect.unit (s := S2x256x256) ![b, i, 0] S1x64x256.size h).emb x) := by
  subst hw
  unfold cacheV
  have h0 : (x 0).val < 1 := (x 0).isLt
  have h1 : (x 1).val < 64 := (x 1).isLt
  have e0 : (Rect.unit (s := S2x256x256) ![b, i, 0] S1x64x256.size h).emb x 0 = (⟨b, hb⟩ : Fin 2) := Fin.ext (by change b + 1 * (x 0).val = b; omega)
  have e1 : ((Rect.unit (s := S2x256x256) ![b, i, 0] S1x64x256.size h).emb x 1).val = i + 1 * (x 1).val := rfl
  have e2 : (⟨((Rect.unit (s := S2x256x256) ![b, i, 0] S1x64x256.size h).emb x 1).val / 64, by rw [e1]; omega⟩ : Fin 4) = ⟨i / 64, hi⟩ := Fin.ext ((congrArg (· / 64) e1).trans (by change (i + 1 * (x 1).val) / 64 = i / 64; omega))
  have e3 : (ix3 (n0 := 1) (n1 := 64) (n2 := 256) 0 ⟨((Rect.unit (s := S2x256x256) ![b, i, 0] S1x64x256.size h).emb x 1).val % 64, Nat.mod_lt _ (by decide)⟩ ((Rect.unit (s := S2x256x256) ![b, i, 0] S1x64x256.size h).emb x 2)) = x := by
    refine Idealize.ShloMosaic.Shape.idx3_ext ?_ ?_ ?_
    · change 0 = (x 0).val; omega
    · change _ % 64 = (x 1).val; rw [e1]; omega
    · change 0 + 1 * (x 2).val = (x 2).val; omega
  exact (congr (congrArg₂ (pieceV c k) e0 e2) e3).symm

/-- A block as it is transferred is the block. -/
theorem blk_of_src (M : Memref sig .tc .hbm S2x16384x128 .f32) (i : Fin 4) (n : ℕ) (hn : n = 4096 * i.val)
    (h : ∀ a, (![0, n, 0] : Fin 3 → Nat) a + S2x4096x128.size a ≤ S2x16384x128.size a) (hs) (k) (k' : Vec F S2x16384x128 .f32) (hk : M.view.read (Elt F) k = k') :
    (fun x : S1x2x4096x128.Idx => ReadAs.same.apply (View.read (Elt F) (M.slice (Rect.unit (s := S2x16384x128) ![0, n, 0] S2x4096x128.size h) hs).view k)
      (ix3 (n0 := 2) (n1 := 4096) (n2 := 128) (x 1) (x 2) (x 3))) = blk k' i := by
  subst hn
  funext x
  have h2 : (x 2).val < 4096 := (x 2).isLt
  have := i.isLt
  refine (src_read M _ h hs k _ (by change 4096 * i.val + (x 2).val < 16384; omega)).trans ?_
  rw [hk]
  rfl

/-- Where a piece of the selected rows lies. -/
theorem in_piece (b i : ℕ) (h : ∀ a, (![b, i, 0] : Fin 3 → Nat) a + S1x64x256.size a ≤ S2x256x256.size a) (y : S2x256x256.Idx)
    (h0 : (y 0).val = b) (h1 : i ≤ (y 1).val) (h2 : (y 1).val < i + 64) : y ∈ (Rect.unit (s := S2x256x256) ![b, i, 0] S1x64x256.size h).set := by
  have h3 : (y 2).val < 256 := (y 2).isLt
  refine Rect.mem_set_unit.2 fun a => ?_
  fin_cases a
  · change b ≤ (y 0).val ∧ (y 0).val < b + 1; omega
  · exact ⟨h1, h2⟩
  · change 0 ≤ (y 2).val ∧ (y 2).val < 0 + 256; omega

/-- The columns of one head read out of the selected rows, once all eight pieces are stored. -/
theorem readCov_head (c : Dev nD) (k : Vec F S2x16384x128 .f32) (M : Memref sig .tc .vmem S2x256x256 .bf16)
    (w00 w10 w01 w11 w02 w12 w03 w13 : Vec F S1x64x256 .bf16)
    (h00 : w00 = pieceV c k 0 0) (h10 : w10 = pieceV c k 1 0) (h01 : w01 = pieceV c k 0 1) (h11 : w11 = pieceV c k 1 1)
    (h02 : w02 = pieceV c k 0 2) (h12 : w12 = pieceV c k 1 2) (h03 : w03 = pieceV c k 0 3) (h13 : w13 = pieceV c k 1 3)
    (b : Fin 2) (h : Fin 4) (n : ℕ) (hn : n = 64 * h.val) (m : ℕ) (hm : m = b.val) (hB : ∀ a, (![m, 0, n] : Fin 3 → Nat) a + S1x256x64.size a ≤ S2x256x256.size a) :
    M.view.readCov (Val := Elt F) [⟨Rect.unit (s := S2x256x256) ![1, 192, 0] S1x64x256.size inb_S2x256x256_S1x64x256_1_192_0, w13⟩,
      ⟨Rect.unit (s := S2x256x256) ![0, 192, 0] S1x64x256.size inb_S2x256x256_S1x64x256_0_192_0, w03⟩,
      ⟨Rect.unit (s := S2x256x256) ![1, 128, 0] S1x64x256.size inb_S2x256x256_S1x64x256_1_128_0, w12⟩,
      ⟨Rect.unit (s := S2x256x256) ![0, 128, 0] S1x64x256.size inb_S2x256x256_S1x64x256_0_128_0, w02⟩,
      ⟨Rect.unit (s := S2x256x256) ![1, 64, 0] S1x64x256.size inb_S2x256x256_S1x64x256_1_64_0, w11⟩,
      ⟨Rect.unit (s := S2x256x256) ![0, 64, 0] S1x64x256.size inb_S2x256x256_S1x64x256_0_64_0, w01⟩,
      ⟨Rect.unit (s := S2x256x256) ![1, 0, 0] S1x64x256.size inb_S2x256x256_S1x64x256_1_0_0, w10⟩,
      ⟨Rect.unit (s := S2x256x256) ![0, 0, 0] S1x64x256.size inb_S2x256x256_S1x64x256_0_0_0, w00⟩]
      (Rect.unit (s := S2x256x256) ![m, 0, n] S1x256x64.size hB).toLoadRect = headV c k b h := by
  subst hn hm
  funext x
  have h0 : (x 0).val < 1 := (x 0).isLt
  have h1 : (x 1).val < 256 := (x 1).isLt
  have h2 : (x 2).val < 64 := (x 2).isLt
  have hb := b.isLt
  have hh := h.isLt
  have ex : (Rect.unit (s := S2x256x256) ![b.val, 0, 64 * h.val] S1x256x64.size hB).toLoadRect.idx x
      = ix3 (n0 := 2) (n1 := 256) (n2 := 256) b (x 1) ⟨64 * h.val + (x 2).val, by omega⟩ := by
    refine Idealize.ShloMosaic.Shape.idx3_ext ?_ ?_ ?_
    · change b.val + 1 * (x 0).val = b.val; omega
    · change 0 + 1 * (x 1).val = (x 1).val; omega
    · change 64 * h.val + 1 * (x 2).val = 64 * h.val + (x 2).val; omega
  refine (View.read_writes_apply_of_pieces M.view _ (cacheV c k) _ ?_ _ ?_).trans (congrArg (cacheV c k) ex)
  · simp only [List.mem_cons, List.not_mem_nil, or_false, forall_eq_or_imp, forall_eq]
    exact ⟨piece_at c k 1 192 (by decide) (by decide) (by decide) _ _ h13, piece_at c k 0 192 (by decide) (by decide) (by decide) _ _ h03,
      piece_at c k 1 128 (by decide) (by decide) (by decide) _ _ h12, piece_at c k 0 128 (by decide) (by decide) (by decide) _ _ h02,
      piece_at c k 1 64 (by decide) (by decide) (by decide) _ _ h11, piece_at c k 0 64 (by decide) (by decide) (by decide) _ _ h01,
      piece_at c k 1 0 (by decide) (by decide) (by decide) _ _ h10, piece_at c k 0 0 (by decide) (by decide) (by decide) _ _ h00⟩
  · rw [ex]
    have hb' : b.val = 0 ∨ b.val = 1 := by omega
    have hx : (x 1).val / 64 = 0 ∨ (x 1).val / 64 = 1 ∨ (x 1).val / 64 = 2 ∨ (x 1).val / 64 = 3 := by omega
    simp only [List.mem_cons, List.not_mem_nil, or_false, exists_eq_or_imp, exists_eq_left]
    rcases hb' with hb' | hb' <;> rcases hx with hx | hx | hx | hx
    · exact .inr (.inr (.inr (.inr (.inr (.inr (.inr (in_piece _ _ _ _ hb' (by change _ ≤ (x 1).val; omega) (by change (x 1).val < _; omega))))))))
    · exact .inr (.inr (.inr (.inr (.inr (.inl (in_piece _ _ _ _ hb' (by change _ ≤ (x 1).val; omega) (by change (x 1).val < _; omega)))))))
    · exact .inr (.inr (.inr (.inl (in_piece _ _ _ _ hb' (by change _ ≤ (x 1).val; omega) (by change (x 1).val < _; omega)))))
    · exact .inr (.inl (in_piece _ _ _ _ hb' (by change _ ≤ (x 1).val; omega) (by change (x 1).val < _; omega)))
    · exact .inr (.inr (.inr (.inr (.inr (.inr (.inl (in_piece _ _ _ _ hb' (by change _ ≤ (x 1).val; omega) (by change (x 1).val < _; omega))))))))
    · exact .inr (.inr (.inr (.inr (.inl (in_piece _ _ _ _ hb' (by change _ ≤ (x 1).val; omega) (by change (x 1).val < _; omega))))))
    · exact .inr (.inr (.inl (in_piece _ _ _ _ hb' (by change _ ≤ (x 1).val; omega) (by change (x 1).val < _; omega))))
    · exact .inl (in_piece _ _ _ _ hb' (by change _ ≤ (x 1).val; omega) (by change (x 1).val < _; omega))

end Cert.KernelIdeal.Ring

end
-- ==== Proof.KernelIdeal.LocalRun.lean ====
module

public import proofs.«01_k».proof.Proof.KernelIdeal.Algebra
public import proofs.«01_k».proof.Proof.KernelIdeal.Compute

/-! The prefetches, the signals and the local computation run on one device: the operands are kept,
and the value the rest of the body goes on with is the device's partial product. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- A transfer semaphore of device `c` at rest. -/
abbrev cnt (c : Dev nD) (s : DmaSem sig) : sProp (MM F) := semVal ((c : Thread nD τ), (SemLoc.dma s : SemLoc sig)) 0

/-- A whole buffer of device `c` with contents nobody names. -/
abbrev some' (c : Dev nD) {sp : Space} {s : Shape} {e : EltTy} (M : Memref sig .tc sp s e) : sProp (MM F) :=
  iprop(∃ f : Buf (Elt F) (M.view.loc (c : Thread nD τ)), M.view.loc (c : Thread nD τ) ↦{fullShare} f)

set_option sl_exec.dmaWindow true in
set_option maxHeartbeats 0 in
/-- The local part of the body, from the operands in main memory. -/
theorem wp_local (c : Dev nD) (O O' : CellTallies nD τ sig Bool) (W : Waits sig Bool) (R R' : sProp (MM F))
    (x : Buf (Elt F) ((c : Thread nD τ).loc main_arg0)) (wq : Buf (Elt F) ((c : Thread nD τ).loc main_arg1))
    (k : Buf (Elt F) ((c : Thread nD τ).loc main_v2)) (v : Buf (Elt F) ((c : Thread nD τ).loc main_v4))
    (wo : Buf (Elt F) ((c : Thread nD τ).loc main_arg4))
    (kb : Buf (Elt F) ((c : Thread nD τ).loc cc0_scratch3)) (vb : Buf (Elt F) ((c : Thread nD τ).loc cc0_scratch4))
    (kc : Buf (Elt F) ((c : Thread nD τ).loc cc0_scratch5)) (vc : Buf (Elt F) ((c : Thread nD τ).loc cc0_scratch6))
    (xb : Buf (Elt F) ((c : Thread nD τ).loc cc0_scratch7)) (wqb : Buf (Elt F) ((c : Thread nD τ).loc cc0_scratch8))
    (wob : Buf (Elt F) ((c : Thread nD τ).loc cc0_scratch9))
    (K : Dev nD → FVec F S512x512 .f32 → P F PUnit) (Q : PUnit → sProp (MM F))
    (hcut : ∀ W, iprop(R ∗ owes (c : Thread nD τ) O W) ⊢ wp frame (wpE defs₀ 𝒱₀ (c : Thread nD τ) none) Set.univ (loop 31 (signalOne c)) (fun _ => iprop(R' ∗ owes (c : Thread nD τ) O' W))) :
    iprop((((Memref.whole main_arg0).view.loc (c : Thread nD τ) ↦{fullShare} x) ∗ ((Memref.whole main_arg1).view.loc (c : Thread nD τ) ↦{fullShare} wq)
      ∗ ((Memref.whole main_v2).view.loc (c : Thread nD τ) ↦{fullShare} k) ∗ ((Memref.whole main_v4).view.loc (c : Thread nD τ) ↦{fullShare} v)
      ∗ ((Memref.whole main_arg4).view.loc (c : Thread nD τ) ↦{fullShare} wo)
      ∗ ((Memref.whole cc0_scratch3).view.loc (c : Thread nD τ) ↦{fullShare} kb)
      ∗ ((Memref.whole cc0_scratch4).view.loc (c : Thread nD τ) ↦{fullShare} vb)
      ∗ ((Memref.whole cc0_scratch5).view.loc (c : Thread nD τ) ↦{fullShare} kc)
      ∗ ((Memref.whole cc0_scratch6).view.loc (c : Thread nD τ) ↦{fullShare} vc)
      ∗ ((Memref.whole cc0_scratch7).view.loc (c : Thread nD τ) ↦{fullShare} xb)
      ∗ ((Memref.whole cc0_scratch8).view.loc (c : Thread nD τ) ↦{fullShare} wqb)
      ∗ ((Memref.whole cc0_scratch9).view.loc (c : Thread nD τ) ↦{fullShare} wob)
      ∗ cnt c ⟨0, by decide⟩ ∗ cnt c ⟨1, by decide⟩ ∗ cnt c ⟨2, by decide⟩ ∗ cnt c ⟨3, by decide⟩ ∗ cnt c ⟨4, by decide⟩ ∗ cnt c ⟨5, by decide⟩ ∗ cnt c ⟨6, by decide⟩)
      ∗ R ∗ Transfers.MayWaits (c : Thread nD τ) false O'
      ∗ owes (c : Thread nD τ) O W
      ∗ (∀ W', ((((Memref.whole main_arg0).view.loc (c : Thread nD τ) ↦{fullShare} x) ∗ ((Memref.whole main_arg1).view.loc (c : Thread nD τ) ↦{fullShare} wq)
          ∗ ((Memref.whole main_v2).view.loc (c : Thread nD τ) ↦{fullShare} k) ∗ ((Memref.whole main_v4).view.loc (c : Thread nD τ) ↦{fullShare} v)
          ∗ ((Memref.whole main_arg4).view.loc (c : Thread nD τ) ↦{fullShare} wo)
          ∗ some' c (Memref.whole cc0_scratch3) ∗ some' c (Memref.whole cc0_scratch4) ∗ some' c (Memref.whole cc0_scratch5) ∗ some' c (Memref.whole cc0_scratch6)
          ∗ some' c (Memref.whole cc0_scratch7) ∗ some' c (Memref.whole cc0_scratch8) ∗ some' c (Memref.whole cc0_scratch9)
          ∗ cnt c ⟨0, by decide⟩ ∗ cnt c ⟨1, by decide⟩ ∗ cnt c ⟨2, by decide⟩ ∗ cnt c ⟨3, by decide⟩ ∗ cnt c ⟨4, by decide⟩ ∗ cnt c ⟨5, by decide⟩ ∗ cnt c ⟨6, by decide⟩)
          ∗ R' ∗ owes (c : Thread nD τ) O' W') -∗ wp frame (wpE defs₀ 𝒱₀ (c : Thread nD τ) none) Set.univ (K c (partV c x wq k v wo)) Q))
    ⊢ wp frame (wpE defs₀ 𝒱₀ (c : Thread nD τ) none) Set.univ
      (do let d0 ← prefetch
          loop 31 (signalOne d0)
          let v ← compute (F := F) d0
          K d0 v) Q := by
  unfold prefetch
  iintro ⟨⟨Hx, Hwq, Hk, Hv, Hwo, Hkb, Hvb, Hkc, Hvc, Hxb, Hwqb, Hwob, C0, C1, C2, C3, C4, C5, C6⟩, HR, #HM, HO, HK⟩
  sl_exec
  have e : wp_local.sl.r_22 c x wq k v wo kb vb xb wqb wob = partV c x wq k v wo := by
    have k0 : wp_local.sl.v257 c k kb = blk k 0 := by
      unfold wp_local.sl.v257
      (repeat first | rw [slot_read_same] | rw [slot_read_other (hnm := by decide)])
      unfold wp_local.sl.dma0_3
      exact blk_of_src (Memref.whole main_v2) 0 0 rfl _ _ k k (View.read_whole _ _)
    have k1 : wp_local.sl.v325 c k kb = blk k 1 := by
      unfold wp_local.sl.v325
      (repeat first | rw [slot_read_same] | rw [slot_read_other (hnm := by decide)])
      unfold wp_local.sl.dma0_5
      exact blk_of_src (Memref.whole main_v2) 1 4096 rfl _ _ k k (View.read_whole _ _)
    have k2 : wp_local.sl.v393 c k kb = blk k 2 := by
      unfold wp_local.sl.v393
      (repeat first | rw [slot_read_same] | rw [slot_read_other (hnm := by decide)])
      unfold wp_local.sl.dma12
      exact blk_of_src (Memref.whole main_v2) 2 8192 rfl _ _ k k (View.read_whole _ _)
    have k3 : wp_local.sl.v451 c k kb = blk k 3 := by
      unfold wp_local.sl.v451
      (repeat first | rw [slot_read_same] | rw [slot_read_other (hnm := by decide)])
      unfold wp_local.sl.dma22
      exact blk_of_src (Memref.whole main_v2) 3 12288 rfl _ _ k k (View.read_whole _ _)
    have v0 : wp_local.sl.v281 c v vb = blk v 0 := by
      unfold wp_local.sl.v281
      (repeat first | rw [slot_read_same] | rw [slot_read_other (hnm := by decide)])
      unfold wp_local.sl.dma0_4
      exact blk_of_src (Memref.whole main_v4) 0 0 rfl _ _ v v (View.read_whole _ _)
    have v1 : wp_local.sl.v349 c v vb = blk v 1 := by
      unfold wp_local.sl.v349
      (repeat first | rw [slot_read_same] | rw [slot_read_other (hnm := by decide)])
      unfold wp_local.sl.dma0_6
      exact blk_of_src (Memref.whole main_v4) 1 4096 rfl _ _ v v (View.read_whole _ _)
    have v2 : wp_local.sl.v417 c v vb = blk v 2 := by
      unfold wp_local.sl.v417
      (repeat first | rw [slot_read_same] | rw [slot_read_other (hnm := by decide)])
      unfold wp_local.sl.dma12_1
      exact blk_of_src (Memref.whole main_v4) 2 8192 rfl _ _ v v (View.read_whole _ _)
    have v3 : wp_local.sl.v475 c v vb = blk v 3 := by
      unfold wp_local.sl.v475
      (repeat first | rw [slot_read_same] | rw [slot_read_other (hnm := by decide)])
      unfold wp_local.sl.dma22_1
      exact blk_of_src (Memref.whole main_v4) 3 12288 rfl _ _ v v (View.read_whole _ _)
    have hK := readCov_head c k (Memref.whole cc0_scratch5) _ _ _ _ _ _ _ _
      (show k0_pay8 (wp_local.sl.r c) k0_pay5 (wp_local.sl.v257 c k kb) = _ from by rw [k0]; rfl)
      (show k0_pay10 (wp_local.sl.r_2 c k kb) = _ from by unfold wp_local.sl.r_2; rw [k0]; rfl)
      (show k0_pay16 (wp_local.sl.r_4 c k kb) = _ from by unfold wp_local.sl.r_4; rw [k1]; rfl)
      (show k0_pay17 k0_pay5 (wp_local.sl.r_3 c k kb) = _ from by unfold wp_local.sl.r_3; rw [k1]; rfl)
      (show k0_pay22 (wp_local.sl.r c) k0_pay5 (wp_local.sl.v393 c k kb) = _ from by rw [k2]; rfl)
      (show k0_pay23 (wp_local.sl.r c) k0_pay5 (wp_local.sl.v393 c k kb) = _ from by rw [k2]; rfl)
      (show k0_pay30 k0_pay5 (wp_local.sl.r_9 c k kb) = _ from by unfold wp_local.sl.r_9; rw [k3]; rfl)
      (show k0_pay31 k0_pay5 (wp_local.sl.r_8 c k kb) = _ from by unfold wp_local.sl.r_8; rw [k3]; rfl)
    have hV := readCov_head c v (Memref.whole cc0_scratch6) _ _ _ _ _ _ _ _
      (show k0_pay12 (wp_local.sl.r c) k0_pay5 (wp_local.sl.v281 c v vb) = _ from by rw [v0]; rfl)
      (show k0_pay13 (wp_local.sl.r c) k0_pay5 (wp_local.sl.v281 c v vb) = _ from by rw [v0]; rfl)
      (show k0_pay19 (wp_local.sl.r c) k0_pay5 (wp_local.sl.v349 c v vb) = _ from by rw [v1]; rfl)
      (show k0_pay20 (wp_local.sl.r c) k0_pay5 (wp_local.sl.v349 c v vb) = _ from by rw [v1]; rfl)
      (show k0_pay26 (wp_local.sl.r_7 c v vb) = _ from by unfold wp_local.sl.r_7; rw [v2]; rfl)
      (show k0_pay27 k0_pay5 (wp_local.sl.r_6 c v vb) = _ from by unfold wp_local.sl.r_6; rw [v2]; rfl)
      (show k0_pay33 (wp_local.sl.r c) k0_pay5 (wp_local.sl.v475 c v vb) = _ from by rw [v3]; rfl)
      (show k0_pay35 (wp_local.sl.r_10 c v vb) = _ from by unfold wp_local.sl.r_10; rw [v3]; rfl)
    have hx : wp_local.sl.v241 c x xb = x := by
      unfold wp_local.sl.v241 wp_local.sl.dma0
      exact (congrArg _ (View.write_whole_univ cc0_scratch7 xb _)).trans ((Memref.readAt_unit_zero (Elt F) cc0_scratch7 (by decide) _ _).trans (View.read_whole _ _))
    have hwq : wp_local.sl.v244 c wq wqb = wq := by
      unfold wp_local.sl.v244 wp_local.sl.dma0_1
      exact (congrArg _ (View.write_whole_univ cc0_scratch8 wqb _)).trans ((Memref.readAt_unit_zero (Elt F) cc0_scratch8 (by decide) _ _).trans (View.read_whole _ _))
    have hwo : wp_local.sl.v732 c wo wob = wo := by
      unfold wp_local.sl.v732 wp_local.sl.dma0_2
      exact (congrArg _ (View.write_whole_univ cc0_scratch9 wob _)).trans ((Memref.readAt_unit_zero (Elt F) cc0_scratch9 (by decide) _ _).trans (View.read_whole _ _))
    have hq : wp_local.sl.r_1 c x wq xb wqb = k0_pay6 x wq := by
      unfold wp_local.sl.r_1
      rw [hx, hwq]
    unfold wp_local.sl.r_22 partV
    have hm : wp_local.sl.r_11 = maskV := rfl
    have k00 : wp_local.sl.v552 c k kb = headV c k 0 0 := hK 0 0 0 rfl 0 rfl _
    have k01 : wp_local.sl.v574 c k kb = headV c k 0 1 := hK 0 1 64 rfl 0 rfl _
    have k02 : wp_local.sl.v596 c k kb = headV c k 0 2 := hK 0 2 128 rfl 0 rfl _
    have k03 : wp_local.sl.v618 c k kb = headV c k 0 3 := hK 0 3 192 rfl 0 rfl _
    have k10 : wp_local.sl.v641 c k kb = headV c k 1 0 := hK 1 0 0 rfl 1 rfl _
    have k11 : wp_local.sl.v663 c k kb = headV c k 1 1 := hK 1 1 64 rfl 1 rfl _
    have k12 : wp_local.sl.v685 c k kb = headV c k 1 2 := hK 1 2 128 rfl 1 rfl _
    have k13 : wp_local.sl.v707 c k kb = headV c k 1 3 := hK 1 3 192 rfl 1 rfl _
    have v00 : wp_local.sl.v568 c v vb = headV c v 0 0 := hV 0 0 0 rfl 0 rfl _
    have v01 : wp_local.sl.v590 c v vb = headV c v 0 1 := hV 0 1 64 rfl 0 rfl _
    have v02 : wp_local.sl.v612 c v vb = headV c v 0 2 := hV 0 2 128 rfl 0 rfl _
    have v03 : wp_local.sl.v634 c v vb = headV c v 0 3 := hV 0 3 192 rfl 0 rfl _
    have v10 : wp_local.sl.v657 c v vb = headV c v 1 0 := hV 1 0 0 rfl 1 rfl _
    have v11 : wp_local.sl.v679 c v vb = headV c v 1 1 := hV 1 1 64 rfl 1 rfl _
    have v12 : wp_local.sl.v701 c v vb = headV c v 1 2 := hV 1 2 128 rfl 1 rfl _
    have v13 : wp_local.sl.v723 c v vb = headV c v 1 3 := hV 1 3 192 rfl 1 rfl _
    unfold wp_local.sl.r_17 wp_local.sl.r_19 wp_local.sl.r_20 wp_local.sl.r_21
    unfold wp_local.sl.r_12 wp_local.sl.r_14 wp_local.sl.r_15 wp_local.sl.r_16 wp_local.sl.r_18
    unfold wp_local.sl.r_13
    rw [hq, hm, hwo, k00, k01, k02, k03, k10, k11, k12, k13, v00, v01, v02, v03, v10, v11, v12, v13]
    rfl
  rw [e]
  iapply HK
  isplitl [Hx Hwq Hk Hv Hwo Hkb Hvb Hkc Hvc Hxb Hwqb Hwob C0 C1 C2 C3 C4 C5 C6]
  · isplitl [Hx]
    · iexact Hx
    isplitl [Hwq]
    · iexact Hwq
    isplitl [Hk]
    · iexact Hk
    isplitl [Hv]
    · iexact Hv
    isplitl [Hwo]
    · iexact Hwo
    isplitl [Hkb]
    · iexists _; iexact Hkb
    isplitl [Hvb]
    · iexists _; iexact Hvb
    isplitl [Hkc]
    · iexists _; iexact Hkc
    isplitl [Hvc]
    · iexists _; iexact Hvc
    isplitl [Hxb]
    · iexists _; iexact Hxb
    isplitl [Hwqb]
    · iexists _; iexact Hwqb
    isplitl [Hwob]
    · iexists _; iexact Hwob
    iframe
  isplitl [Hloop_0]
  · iexact Hloop_0
  · iexact Hloop_1

end Cert.KernelIdeal.Ring

end
-- ==== Proof.KernelIdeal.Exchange.lean ====
module

public import proofs.«01_k».proof.Proof.KernelIdeal.Gather
public import proofs.«01_k».proof.Proof.KernelIdeal.LocalRun

/-! The exchange run on one device, from the stored partial product to the copy of the assembled
result: the device ends with the reduced chunks of all devices in its result. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (A : Dev nD → Vec F S32x16x512 .bf16) (K : GSem nD τ sig → ℕ)

/-! ### The copy to the output -/

/-- The output in main memory. -/
abbrev outm : Memref sig .tc .hbm S32x16x512 .f32 := Memref.whole main_v5

/-- The copy of the result to the output under way. -/
abbrev outFlight (c : Dev nD) (fo f5 : Vec F S32x16x512 .f32) : sProp (MM F) :=
  Transfers.Flight (countersEmb (U := UU)) (c : Thread nD τ) (.dma oSem) false outm.view.dmaCredit
    iprop((outm.view.loc (c : Thread nD τ) ↦[Finset.univ]{fullShare} (outm.view.write (Elt F) f5 (ReadAs.same.apply (outr.view.read (Elt F) fo)) Finset.univ))
      ∗ (outr.view.loc (c : Thread nD τ) ↦[outr.view.set]{fullShare} fo))

theorem wp_outStart (c : Dev nD) (fo f5 : Vec F S32x16x512 .f32) (Q : PUnit → sProp (MM F)) :
    iprop((outr.view.loc (c : Thread nD τ) ↦{fullShare} fo) ∗ (outm.view.loc (c : Thread nD τ) ↦{fullShare} f5) ∗ cnt c oSem ∗ (outFlight c fo f5 -∗ Q ⟨⟩))
      ⊢ wp frame (wpE defs₀ 𝒱₀ (c : Thread nD τ) none) Set.univ outStart Q := by
  unfold outStart
  iintro ⟨Ho, H5, Hc, HK⟩
  iapply (Transfers.wp_dmaLocal (countersEmb (U := UU)) 𝒱₀ (c : Thread nD τ) none (src := outr) (dst := outm) (sm := .dma oSem) (q := fullShare) (fs := fo)
      (Sd := Finset.univ) (fd := f5) false outm.view.dmaCredit rfl (View.dmaCredit_pos _ (by decide)) (Finset.subset_univ _)) $$ [Ho H5 Hc]
  · isplitl [Ho]
    · rw [View.set_whole]; iexact Ho
    isplitl [H5]; · iexact H5
    iexact Hc
  iintro H
  rw [wp_ret]
  imodintro
  iapply HK
  iexact H

theorem wp_outWait (c : Dev nD) (fo f5 : Vec F S32x16x512 .f32) (Q : PUnit → sProp (MM F)) :
    iprop(outFlight c fo f5 ∗ (∃ W, owes (c : Thread nD τ) 0 W)
        ∗ ((outr.view.loc (c : Thread nD τ) ↦{fullShare} fo) ∗ (outm.view.loc (c : Thread nD τ) ↦{fullShare} fo) ∗ cnt c oSem ∗ (∃ W, owes (c : Thread nD τ) 0 W) -∗ Q ⟨⟩))
      ⊢ wp frame (wpE defs₀ 𝒱₀ (c : Thread nD τ) none) Set.univ outWait Q := by
  unfold outWait
  iintro ⟨HF, ⟨%W, HO⟩, HK⟩
  iapply (Transfers.wp_waitLocal (countersEmb (U := UU)) 𝒱₀ (c : Thread nD τ) none (srcw := outr) (dstw := outm) (sem := oSem) false rfl (W := W)) $$ [HF HO]
  · isplitl [HF]; · iexact HF
    iexact HO
  iintro ⟨⟨H5, Ho⟩, Hc, HO⟩
  rw [wp_ret]
  imodintro
  iapply HK
  isplitl [Ho]
  · rw [View.set_whole]; iexact Ho
  isplitl [H5]
  · have e : outm.view.write (Elt F) f5 (ReadAs.same.apply (outr.view.read (Elt F) fo)) Finset.univ = fo :=
      (View.write_whole_univ main_v5 f5 _).trans (View.read_whole cc0_scratch10 fo)
    ihave H5 := (Entails.of_eq (congrArg (fun g => (outm.view.loc (c : Thread nD τ) ↦{fullShare} g : sProp (MM F))) e)) $$ H5
    iexact H5
  isplitl [Hc]; · iexact Hc
  iexists _; iexact HO

/-! ### The exchange -/

/-- The body from the stored partial product on. -/
def exchange (c : Dev nD) (v : FVec F S512x512 .f32) : P F PUnit := do
  storeAcc v
  semWaitWord bar 31#32
  loop 31 (sendOne c)
  loop 31 (recvOne c)
  reduce c
  loop 31 (spreadOne c)
  loop 31 (gatherOne c)
  outStart
  loop 31 (sentOne c)
  loop 31 (spreadDone c)
  outWait

/-- The positions of a device's own transfer cells, all at round `r`. -/
def poss (c : Dev nD) (r : ℕ) : sProp (MM F) :=
  iprop((bigSep Finset.univ fun o => atPos ER (dmaC c (s1 o)) r ∅ 0) ∗ (bigSep Finset.univ fun o => atPos ER (dmaC c (r1 (rev o))) r ∅ 0)
    ∗ (bigSep Finset.univ fun o => atPos ER (dmaC c (s2 o)) r ∅ 0) ∗ (bigSep Finset.univ fun o => atPos ER (dmaC c (r2 o)) r ∅ 0))

/-- The rights to pay that a device's own transfers use. -/
def pays (c : Dev nD) : sProp (MM F) :=
  iprop((bigSep Finset.univ fun o => dutyTok ER (dmaC c (s1 o)) 0 0) ∗ (bigSep Finset.univ fun o => dutyTok ER (dmaC (peer c o) (r1 (rev o))) 0 0)
    ∗ (bigSep Finset.univ fun o => dutyTok ER (dmaC c (s2 o)) 0 0) ∗ (bigSep Finset.univ fun o => dutyTok ER (dmaC (peer c o) (r2 (rev o))) 0 0))

/-- The credits a device waits with. -/
def creds (c : Dev nD) : sProp (MM F) :=
  iprop(cred (tallyAt (barC c) true 31) ∗ (bigSep Finset.univ fun o => cred (tallyAt (dmaC c (r1 (rev o))) true N))
    ∗ (bigSep Finset.univ fun o => cred (tallyAt (dmaC c (r2 o)) true N)))

/-- What a device runs the exchange with, beside its buffers. -/
def exchPre (c : Dev nD) (W : Waits sig Bool) : sProp (MM F) :=
  iprop(records A K ∗ levAts L lv ∗ owes (c : Thread nD τ) (debt (due1 c) 0 + debt (due2 c) 0) W ∗ atPos ER (barC c) 0 ∅ 0 ∗ poss c 0 ∗ pays c ∗ creds c
    ∗ (bigSep Finset.univ fun o => reached ER (dmaC c (s1 o)) 0) ∗ (bigSep Finset.univ fun o => reached ER (dmaC c (s2 o)) 0))

/-- The slots in the order they are waited for. -/
theorem com1_rev (c : Dev nD) (f : Vec F S31x16x512 .bf16) :
    (bigSep Finset.univ fun o => hold1 c (rev o) f : sProp (MM F)) = (com1.view.loc (c : Thread nD τ) ↦{fullShare} f) := by
  refine Eq.symm ((com1_split c f).trans ((bigSep_univ_equiv revEquiv fun t => hold1 c t f).trans (bigSep_congr fun o _ => ?_)))
  rw [revEquiv_apply]

/-- What the barrier hands over, kind by kind. -/
theorem slots_split (c : Dev nD) : (bigSep Finset.univ fun o => barPay (F := F) (peer c o) (rev o))
    ⊢ iprop((bigSep Finset.univ fun o => iprop(∃ f, hold1 (F := F) (peer c o) (rev o) f)) ∗ (bigSep Finset.univ fun o => iprop(∃ f, hold2 (F := F) (peer c o) (rev o) f))
      ∗ (bigSep Finset.univ fun o => reached ER (dmaC (peer c o) (r1 (rev o))) 0) ∗ (bigSep Finset.univ fun o => reached ER (dmaC (peer c o) (r2 (rev o))) 0)) := by
  unfold barPay
  rw [bigSep_sep', bigSep_sep', bigSep_sep']

/-- The exchange run on device `c`. -/
theorem wp_exchange (c : Dev nD) (v : FVec F S512x512 .f32) (hA : A c = k0_pay51 v) (W : Waits sig Bool)
    (fa : Vec F S32x16x512 .bf16) (fo f5 : Vec F S32x16x512 .f32) (Q : PUnit → sProp (MM F)) :
    iprop(exchPre A K c W ∗ (acc.view.loc (c : Thread nD τ) ↦{fullShare} fa) ∗ (outr.view.loc (c : Thread nD τ) ↦{fullShare} fo) ∗ (outm.view.loc (c : Thread nD τ) ↦{fullShare} f5) ∗ cnt c oSem
        ∗ ((∃ W, owes (c : Thread nD τ) 0 W) ∗ atPos ER (barC c) 1 ∅ 0 ∗ poss c 1 ∗ some' c acc ∗ some' c com1 ∗ some' c com2 ∗ some' c outr
            ∗ (outm.view.loc (c : Thread nD τ) ↦{fullShare} outV A c) ∗ cnt c oSem -∗ Q ⟨⟩))
      ⊢ wp frame (wpE defs₀ 𝒱₀ (c : Thread nD τ) none) Set.univ (exchange c v) Q := by
  unfold exchange exchPre poss pays creds
  iintro ⟨⟨#HI, #Hlev, HO, HatB, ⟨Pa, Pb, Pc, Pd⟩, ⟨Ta, Tb, Tc, Td⟩, ⟨CB, C1, C2⟩, Ra, Rc⟩, Hacc, Hout, H5, Hcnt, HK⟩
  rw [wp_bind]
  iapply (wp_storeAcc c v fa _)
  isplitl [Hacc]; · iexact Hacc
  rw [← hA]
  iintro Hacc
  ihave Hacc := (acc_split c (A c)).1 $$ Hacc
  icases Hacc with ⟨Hown, Hchunks⟩
  rw [wp_bind]
  iapply (wp_barrier A K c _ (above_add _ _ _ (above_1 c 0) ((above_2 c 0).mono (by decide))) W _)
  isplitr; · iexact HI
  isplitr; · iexact Hlev
  isplitl [HO]; · iexact HO
  isplitl [CB]; · iexact CB
  isplitl [HatB]; · iexact HatB
  iintro ⟨⟨%W1, HO⟩, HatB, Hslots⟩
  ihave Hslots := (slots_split c) $$ Hslots
  icases Hslots with ⟨Hs1, Hs2, Rb, Rd⟩
  rw [wp_bind]
  iapply (wp_sends A K c _ W1 _)
  isplitr; · iexact HI
  isplitl [HO]; · iexact HO
  isplitl [Ta Ra Tb Rb Hchunks Hs1]
  · rw [bigSep_sep', bigSep_sep', bigSep_sep', bigSep_sep', bigSep_sep']
    isplitl [Ta]; · iexact Ta
    isplitl [Ra]; · iexact Ra
    isplitl [Tb]; · iexact Tb
    isplitl [Rb]; · iexact Rb
    isplitl [Hchunks]; · iexact Hchunks
    iexact Hs1
  iintro ⟨HO, C3⟩
  rw [wp_bind]
  iapply (wp_recvs A K c _ (above_2 c 0) W1 _)
  isplitr; · iexact HI
  isplitr; · iexact Hlev
  isplitl [HO]; · iexact HO
  isplitl [C1 Pb]
  · rw [bigSep_sep']
    isplitl [C1]; · iexact C1
    iexact Pb
  iintro ⟨⟨%W2, HO⟩, HS⟩
  ihave HS := (Entails.of_eq (bigSep_sep' _ _ _)) $$ HS
  icases HS with ⟨Pb, H1⟩
  ihave H1 := (Entails.of_eq (com1_rev c (com1V A c))) $$ H1
  rw [wp_bind]
  iapply (wp_reduce A c fo _)
  isplitl [Hown]; · iexact Hown
  isplitl [H1]; · iexact H1
  isplitl [Hout]; · iexact Hout
  iintro ⟨Hown, H1, ⟨%f, %hf, Hout⟩⟩
  ihave Hown := (Transfers.pointsTo_toks_split fullShare 31) $$ Hown
  icases Hown with ⟨Hown, Hshares⟩
  rw [wp_bind, ← add_zero (debt (due2 c) 0)]
  iapply (wp_spreads A K c 0 W2 _)
  isplitr; · iexact HI
  isplitl [HO]; · iexact HO
  isplitl [Tc Rc Td Rd Hshares Hs2]
  · rw [bigSep_sep', bigSep_sep', bigSep_sep', bigSep_sep', bigSep_sep']
    isplitl [Tc]; · iexact Tc
    isplitl [Rc]; · iexact Rc
    isplitl [Td]; · iexact Td
    isplitl [Rd]; · iexact Rd
    isplitl [Hshares]; · iexact Hshares
    iexact Hs2
  iintro ⟨HO, C4⟩
  rw [wp_bind]
  iapply (wp_gathers A K c f hf W2 _)
  isplitr; · iexact HI
  isplitr; · iexact Hlev
  isplitl [HO]; · iexact HO
  isplitl [Hout]; · iexact Hout
  isplitl [C2 Pd]
  · rw [bigSep_sep']
    isplitl [C2]; · iexact C2
    iexact Pd
  iintro ⟨HO, Hout, HS⟩
  ihave HS := (Entails.of_eq (bigSep_sep' _ _ _)) $$ HS
  icases HS with ⟨Pd, H2⟩
  ihave H2 := (Entails.of_eq (com2_split c (com2V A c)).symm) $$ H2
  rw [wp_bind]
  iapply (wp_outStart c (outV A c) f5 _)
  isplitl [Hout]; · iexact Hout
  isplitl [H5]; · iexact H5
  isplitl [Hcnt]; · iexact Hcnt
  iintro HF
  rw [wp_bind]
  iapply (wp_departs A K c _)
  isplitr; · iexact HI
  isplitr; · iexact Hlev
  isplitl [HO]; · iexact HO
  isplitl [C3 Pa]
  · rw [bigSep_sep']
    isplitl [C3]; · iexact C3
    iexact Pa
  iintro ⟨HO, HS⟩
  ihave HS := (Entails.of_eq (bigSep_sep' _ _ _)) $$ HS
  icases HS with ⟨Pa, Hchunks⟩
  rw [wp_bind]
  iapply (wp_departs2 A K c _)
  isplitr; · iexact HI
  isplitr; · iexact Hlev
  isplitl [HO]; · iexact HO
  isplitl [C4 Pc]
  · rw [bigSep_sep']
    isplitl [C4]; · iexact C4
    iexact Pc
  iintro ⟨HO, HS⟩
  ihave HS := (Entails.of_eq (bigSep_sep' _ _ _)) $$ HS
  icases HS with ⟨Pc, Hshares⟩
  ihave Hown := (Transfers.pointsTo_toks_join fullShare 31) $$ [Hown Hshares]
  · isplitl [Hown]; · iexact Hown
    iexact Hshares
  ihave Hacc := (acc_join A c) $$ [Hown Hchunks]
  · isplitl [Hown]; · iexact Hown
    iexact Hchunks
  iapply (wp_outWait c (outV A c) f5 _)
  isplitl [HF]; · iexact HF
  isplitl [HO]; · iexact HO
  iintro ⟨Hout, H5, Hcnt, HO⟩
  iapply HK
  isplitl [HO]; · iexact HO
  isplitl [HatB]; · iexact HatB
  isplitl [Pa Pb Pc Pd]
  · isplitl [Pa]; · iexact Pa
    isplitl [Pb]; · iexact Pb
    isplitl [Pc]; · iexact Pc
    iexact Pd
  isplitl [Hacc]; · iexists _; iexact Hacc
  isplitl [H1]; · iexists _; iexact H1
  isplitl [H2]; · iexists _; iexact H2
  isplitl [Hout]; · iexists _; iexact Hout
  isplitl [H5]; · iexact H5
  iexact Hcnt

end Cert.KernelIdeal.Ring

end
-- ==== Proof.KernelIdeal.BodyEq.lean ====
module

public import proofs.«01_k».proof.Proof.KernelIdeal.Body

/-! The printed body is the body told in stretches. -/

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- Two programs whose first effects agree and whose continuations agree. -/
theorem op_congr {α β : Type} {e e' : TpuEff nD τ sig (Elt F) Λ₀ .tc β} {k k' : β → P F α} (he : e = e') (h : ∀ x, k x = k' x) :
    (Prog.op e k : P F α) = Prog.op e' k' := by
  subst he
  exact congrArg _ (funext h)

set_option maxHeartbeats 0 in
/-- The printed body is the body in stretches. -/
theorem body_eq (t : Fin cfg0.N) : bodyAt0 (F := F) t = body := by
  repeat refine op_congr rfl fun _ => ?_
  rfl

end Cert.KernelIdeal.Ring

end
-- ==== Proof.KernelIdeal.Run.lean ====
module

public import proofs.«01_k».proof.Proof.KernelIdeal.Exchange
public import proofs.«01_k».proof.Proof.KernelIdeal.BodyEq

/-! The kernel body run on one device: from the rights dealt at launch and the device's buffers, the
device computes its partial product, takes part in the exchange, and ends with every semaphore of its
own at rest and the output holding the assembled result. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (A : Dev nD → Vec F S32x16x512 .bf16) (K : GSem nD τ sig → ℕ)

/-! ### The four families of transfer cells -/

/-- A resource of every transfer semaphore, family by family. -/
theorem fam_split (Φ : DmaSem sig → sProp (MM F)) :
    (bigSep Finset.univ fun p : Fin 4 × Fin 31 => Φ (famS p))
      = iprop((bigSep Finset.univ fun o => Φ (s1 o)) ∗ (bigSep Finset.univ fun o => Φ (r1 o)) ∗ (bigSep Finset.univ fun o => Φ (s2 o)) ∗ (bigSep Finset.univ fun o => Φ (r2 o))) := by
  rw [bigSep_univ_prod, bigSep_univ_eq_bigSepL [0, 1, 2, 3] (by decide) (by decide)]
  show iprop((bigSep Finset.univ fun o => Φ (famS (0, o))) ∗ (bigSep Finset.univ fun o => Φ (famS (1, o))) ∗ (bigSep Finset.univ fun o => Φ (famS (2, o))) ∗ (bigSep Finset.univ fun o => Φ (famS (3, o)))) = _
  rw [bigSep_congr fun o _ => congrArg Φ (famS_s1 o), bigSep_congr fun o _ => congrArg Φ (famS_r1 o), bigSep_congr fun o _ => congrArg Φ (famS_s2 o), bigSep_congr fun o _ => congrArg Φ (famS_r2 o)]

/-- A resource of every arrival semaphore of the reduction, in the order they are waited for. -/
theorem rev_order (Φ : Fin 31 → sProp (MM F)) : (bigSep Finset.univ fun o => Φ (rev o)) = bigSep Finset.univ Φ :=
  Eq.symm ((bigSep_univ_equiv revEquiv Φ).trans (bigSep_congr fun o _ => congrArg Φ (revEquiv_apply o)))

/-- The positions of a device's transfer cells, cell by cell. -/
theorem poss_eq (c : Dev nD) (r : ℕ) : (poss c r : sProp (MM F)) = bigSep Finset.univ fun p => atPos ER (dmaC c (famS p)) r ∅ 0 := by
  unfold poss
  rw [fam_split (fun s => atPos ER (dmaC c s) r ∅ 0), rev_order fun o => atPos ER (dmaC c (r1 o)) r ∅ 0]

/-! ### Opening and closing a device's cells -/

/-- What launch deals to a device: the records, its barrier's position, the rights to open its transfer
cells, and the rights to pay that its own steps use. -/
def ghost (c : Dev nD) : sProp (MM F) :=
  iprop(records A K ∗ atPos ER (barC c) 0 ∅ 0 ∗ (bigSep Finset.univ fun p => openTok ER (dmaC c (famS p)))
    ∗ (bigSep Finset.univ fun o => dutyTok ER (barC (peer c o)) 0 o) ∗ pays c)

/-- The same with the transfer cells open. -/
def opened (c : Dev nD) : sProp (MM F) :=
  iprop(records A K ∗ atPos ER (barC c) 0 ∅ 0 ∗ (poss c 0 ∗ bigSep Finset.univ fun p => reached ER (dmaC c (famS p)) 0)
    ∗ (bigSep Finset.univ fun o => dutyTok ER (barC (peer c o)) 0 o) ∗ pays c)

/-- The invariants of a device's transfer cells. -/
theorem inv_fams (c : Dev nD) : records A K ⊢ bigSep Finset.univ fun p => cinv A K (dmaC c (famS p)) := by
  iintro H
  ihave H := (records_at A K c) $$ H
  icases H with ⟨-, -, H⟩; iexact H

/-- Opening the transfer cells with their counters at rest. -/
theorem open_cells (c : Dev nD) : iprop(ghost A K c ∗ bigSep Finset.univ fun p => cnt (F := F) c (famS p)) ⊢ (|={Set.univ}=> opened A K c : sProp (MM F)) := by
  unfold ghost opened
  iintro ⟨⟨#HI, HatB, Hop, Htb, Hp⟩, Hv⟩
  imod (cells_open ER (sched A) Finset.univ (fun p => dmaC c (famS p)) (fun p => K (dmaC c (famS p))) (Es := Set.univ) (fun _ _ => Set.mem_univ _)) $$ [Hop Hv] with H
  · isplitl [Hop]
    · rw [bigSep_sep']
      isplitr
      · iapply (inv_fams A K c); iexact HI
      iexact Hop
    iexact Hv
  imodintro
  ihave H := (Entails.of_eq (bigSep_sep' _ _ _)) $$ H
  icases H with ⟨Hat, Hr⟩
  ihave Hat := (Entails.of_eq (poss_eq (F := F) c 0).symm) $$ Hat
  isplitr; · iexact HI
  isplitl [HatB]; · iexact HatB
  isplitl [Hat Hr]
  · isplitl [Hat]; · iexact Hat
    iexact Hr
  isplitl [Htb]; · iexact Htb
  iexact Hp

/-- Closing every cell of a device after its round: the counters are at rest. -/
theorem close_cells (c : Dev nD) : iprop(records A K ∗ atPos ER (barC c) 1 ∅ 0 ∗ poss c 1)
    ⊢ (|={Set.univ}=> iprop(semVal (barC c) 0 ∗ bigSep Finset.univ fun p => cnt (F := F) c (famS p)) : sProp (MM F)) := by
  iintro ⟨#HI, HB, HP⟩
  ihave HP := (Entails.of_eq (poss_eq (F := F) c 1)) $$ HP
  imod (cell_close ER (sched A) (g := barC c) (κ := K (barC c)) (Es := Set.univ) (R := 1) (Set.mem_univ _) (fun h => h) (duties_later A (barC c))) $$ [HB] with HB
  · isplitr
    · iapply (inv_bar A K c); iexact HI
    iexact HB
  imod (cells_close ER (sched A) Finset.univ (fun p => dmaC c (famS p)) (fun p => K (dmaC c (famS p))) (Es := Set.univ) (fun _ _ => Set.mem_univ _) (fun _ _ h => h)
      (fun _ => 1) (fun p _ => duties_later A (dmaC c (famS p)))) $$ [HP] with HP
  · rw [bigSep_sep']
    isplitr
    · iapply (inv_fams A K c); iexact HI
    iexact HP
  imodintro
  isplitl [HB]; · iexact HB
  iexact HP

/-- The reached facts of a device's transfer cells, family by family. -/
theorem reached_split (c : Dev nD) : (bigSep Finset.univ fun p => (reached ER (dmaC c (famS p)) 0 : sProp (MM F)))
    = iprop((bigSep Finset.univ fun o => reached ER (dmaC c (s1 o)) 0) ∗ (bigSep Finset.univ fun o => reached ER (dmaC c (r1 o)) 0)
      ∗ (bigSep Finset.univ fun o => reached ER (dmaC c (s2 o)) 0) ∗ (bigSep Finset.univ fun o => reached ER (dmaC c (r2 o)) 0)) :=
  fam_split fun s => reached ER (dmaC c s) 0

/-- What the signals hand over: every slot of the two arrival buffers and that its cell is open. -/
theorem pay_intro (c : Dev nD) (f1 f2 : Vec F S31x16x512 .bf16) :
    iprop((com1.view.loc (c : Thread nD τ) ↦{fullShare} f1) ∗ (com2.view.loc (c : Thread nD τ) ↦{fullShare} f2)
        ∗ (bigSep Finset.univ fun o => reached ER (dmaC c (r1 o)) 0) ∗ (bigSep Finset.univ fun o => reached ER (dmaC c (r2 o)) 0))
      ⊢ (bigSep Finset.univ fun o => barPay (F := F) c o : sProp (MM F)) := by
  have h1 : (bigSep Finset.univ fun t => hold1 (F := F) c t f1) ⊢ (bigSep Finset.univ fun t => iprop(∃ f, hold1 (F := F) c t f) : sProp (MM F)) :=
    bigSep_mono fun t _ => show hold1 c t f1 ⊢ iprop(∃ f, hold1 (F := F) c t f) from by
      iintro H; iexists _; iexact H
  have h2 : (bigSep Finset.univ fun t => hold2 (F := F) c t f2) ⊢ (bigSep Finset.univ fun t => iprop(∃ f, hold2 (F := F) c t f) : sProp (MM F)) :=
    bigSep_mono fun t _ => show hold2 c t f2 ⊢ iprop(∃ f, hold2 (F := F) c t f) from by
      iintro H; iexists _; iexact H
  unfold barPay
  rw [bigSep_sep', bigSep_sep', bigSep_sep', com1_split, com2_split]
  iintro ⟨H1, H2, R1, R2⟩
  ihave H1 := h1 $$ H1
  ihave H2 := h2 $$ H2
  isplitl [H1]; · iexact H1
  isplitl [H2]; · iexact H2
  isplitl [R1]; · iexact R1
  iexact R2

/-! ### The body -/

/-- A device's operands in main memory. -/
abbrev opnds (c : Dev nD) (x : Buf (Elt F) ((c : Thread nD τ).loc main_arg0)) (wq : Buf (Elt F) ((c : Thread nD τ).loc main_arg1))
    (k : Buf (Elt F) ((c : Thread nD τ).loc main_v2)) (v : Buf (Elt F) ((c : Thread nD τ).loc main_v4)) (wo : Buf (Elt F) ((c : Thread nD τ).loc main_arg4)) : sProp (MM F) :=
  iprop(((Memref.whole main_arg0).view.loc (c : Thread nD τ) ↦{fullShare} x) ∗ ((Memref.whole main_arg1).view.loc (c : Thread nD τ) ↦{fullShare} wq)
    ∗ ((Memref.whole main_v2).view.loc (c : Thread nD τ) ↦{fullShare} k) ∗ ((Memref.whole main_v4).view.loc (c : Thread nD τ) ↦{fullShare} v)
    ∗ ((Memref.whole main_arg4).view.loc (c : Thread nD τ) ↦{fullShare} wo))

/-- A device's scratch buffers, at contents nobody names. -/
abbrev scr (c : Dev nD) : sProp (MM F) :=
  iprop(some' c acc ∗ some' c com1 ∗ some' c com2 ∗ some' c (Memref.whole cc0_scratch3) ∗ some' c (Memref.whole cc0_scratch4) ∗ some' c (Memref.whole cc0_scratch5)
    ∗ some' c (Memref.whole cc0_scratch6) ∗ some' c (Memref.whole cc0_scratch7) ∗ some' c (Memref.whole cc0_scratch8) ∗ some' c (Memref.whole cc0_scratch9) ∗ some' c outr)

/-- The semaphores of a device's local transfers, at rest. -/
abbrev cnts (c : Dev nD) : sProp (MM F) :=
  iprop(cnt c ⟨0, by decide⟩ ∗ cnt c ⟨1, by decide⟩ ∗ cnt c ⟨2, by decide⟩ ∗ cnt c ⟨3, by decide⟩ ∗ cnt c ⟨4, by decide⟩ ∗ cnt c ⟨5, by decide⟩ ∗ cnt c ⟨6, by decide⟩ ∗ cnt c oSem)

set_option maxHeartbeats 1000000 in
/-- The body run on device `c`. -/
theorem wp_body (c : Dev nD) (W : Waits sig Bool)
    (x : Buf (Elt F) ((c : Thread nD τ).loc main_arg0)) (wq : Buf (Elt F) ((c : Thread nD τ).loc main_arg1))
    (k : Buf (Elt F) ((c : Thread nD τ).loc main_v2)) (v : Buf (Elt F) ((c : Thread nD τ).loc main_v4)) (wo : Buf (Elt F) ((c : Thread nD τ).loc main_arg4))
    (f5 : Vec F S32x16x512 .f32) (hA : A c = k0_pay51 (partV c x wq k v wo)) (Q : PUnit → sProp (MM F)) :
    iprop(opened A K c ∗ creds c ∗ levAts L lv ∗ owes (c : Thread nD τ) (O₀ c) W ∗ opnds c x wq k v wo ∗ (outm.view.loc (c : Thread nD τ) ↦{fullShare} f5) ∗ scr c ∗ cnts c
        ∗ ((semVal (barC c) 0 ∗ bigSep Finset.univ fun p => cnt c (famS p)) ∗ opnds c x wq k v wo ∗ (outm.view.loc (c : Thread nD τ) ↦{fullShare} outV A c) ∗ scr c ∗ cnts c
            ∗ (∃ W, owes (c : Thread nD τ) 0 W) -∗ Q ⟨⟩))
      ⊢ wp frame (wpE defs₀ 𝒱₀ (c : Thread nD τ) none) Set.univ body Q := by
  have hcut : ∀ W, iprop((records A K ∗ bigSep Finset.univ fun o => iprop(dutyTok ER (barC (peer c o)) 0 o ∗ barPay (F := F) c o)) ∗ owes (c : Thread nD τ) (O₀ c) W)
      ⊢ wp frame (wpE defs₀ 𝒱₀ (c : Thread nD τ) none) Set.univ (loop 31 (signalOne c)) (fun _ => iprop(emp ∗ owes (c : Thread nD τ) (debt (due1 c) 0 + debt (due2 c) 0) W)) := by
    intro W
    iintro ⟨⟨#HI, Ht⟩, HO⟩
    iapply (wp_signals A K c (debt (due1 c) 0 + debt (due2 c) 0) W _)
    isplitr; · iexact HI
    isplitl [HO]; · unfold O₀; iexact HO
    isplitl [Ht]; · iexact Ht
    iintro HO
    isplitr; · iempintro
    iexact HO
  unfold opened
  iintro ⟨⟨#HI, HatB, ⟨HP, Hr⟩, Htb, Hpays⟩, Hcr, #Hlev, HO, ⟨Hx, Hwq, Hk, Hv, Hwo⟩, H5, ⟨⟨%fa, Ha⟩, ⟨%f1, H1⟩, ⟨%f2, H2⟩, ⟨%kb, Hkb⟩, ⟨%vb, Hvb⟩, ⟨%kc, Hkc⟩, ⟨%vc, Hvc⟩, ⟨%xb, Hxb⟩, ⟨%wqb, Hwqb⟩, ⟨%wob, Hwob⟩, ⟨%fo, Ho⟩⟩,
    ⟨C0, C1, C2, C3, C4, C5, C6, C7⟩, HK⟩
  ihave Hr := (Entails.of_eq (reached_split (F := F) c)) $$ Hr
  icases Hr with ⟨Ra, Rb, Rc, Rd⟩
  ihave Hpay := (pay_intro c f1 f2) $$ [H1 H2 Rb Rd]
  · isplitl [H1]; · iexact H1
    isplitl [H2]; · iexact H2
    isplitl [Rb]; · iexact Rb
    iexact Rd
  iapply (wp_local c (O₀ c) (debt (due1 c) 0 + debt (due2 c) 0) W
    iprop(records A K ∗ bigSep Finset.univ fun o => iprop(dutyTok ER (barC (peer c o)) 0 o ∗ barPay (F := F) c o)) iprop(emp) x wq k v wo kb vb kc vc xb wqb wob (exchange (F := F)) Q hcut)
  isplitl [Hx Hwq Hk Hv Hwo Hkb Hvb Hkc Hvc Hxb Hwqb Hwob C0 C1 C2 C3 C4 C5 C6]
  · iframe
  isplitl [Htb Hpay]
  · isplitr; · iexact HI
    rw [bigSep_sep']
    isplitl [Htb]; · iexact Htb
    iexact Hpay
  isplitr
  · iapply (mayWaits_local c _ (above_add _ _ _ ((above_1 c 0).mono (by decide)) ((above_2 c 0).mono (by decide))))
    iexact Hlev
  isplitl [HO]; · iexact HO
  iintro %W' ⟨⟨Hx, Hwq, Hk, Hv, Hwo, Hkb, Hvb, Hkc, Hvc, Hxb, Hwqb, Hwob, C0, C1, C2, C3, C4, C5, C6⟩, -, HO⟩
  iapply wp_fupd
  iapply (wp_exchange A K c (partV c x wq k v wo) hA W' fa fo f5 _)
  isplitl [HO HatB HP Hpays Hcr Ra Rc]
  · unfold exchPre
    isplitr; · iexact HI
    isplitr; · iexact Hlev
    iframe
  isplitl [Ha]; · iexact Ha
  isplitl [Ho]; · iexact Ho
  isplitl [H5]; · iexact H5
  isplitl [C7]; · iexact C7
  iintro ⟨HO, HatB, HP, Ha, H1, H2, Ho, H5, C7⟩
  imod (close_cells A K c) $$ [HatB HP] with Hz
  · isplitr; · iexact HI
    isplitl [HatB]; · iexact HatB
    iexact HP
  imodintro
  iapply HK
  isplitl [Hz]; · iexact Hz
  isplitl [Hx Hwq Hk Hv Hwo]; · unfold opnds; iframe
  isplitl [H5]; · iexact H5
  isplitl [Ha H1 H2 Hkb Hvb Hkc Hvc Hxb Hwqb Hwob Ho]; · unfold scr; iframe
  isplitl [C0 C1 C2 C3 C4 C5 C6 C7]; · unfold cnts; iframe
  iexact HO

end Cert.KernelIdeal.Ring

end
-- ==== Proof.KernelIdeal.Deal.lean ====
module

public import proofs.«01_k».proof.Proof.KernelIdeal.Run

/-! What the launch deals: the invariants of every cell, the rights to pay, each handed to the device
that pays it, and the credits every device waits with. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (A : Dev nD → Vec F S32x16x512 .bf16)

/-! ### The semaphores of one device -/

/-- The semaphores of one device: those of its local transfers, and the four families. -/
abbrev OwnIx : Type := Fin 8 ⊕ (Fin 4 × Fin 31)
abbrev osem : OwnIx → SemLoc sig
  | .inl i => .dma ⟨i.val, by have := i.isLt; show _ < 132; omega⟩
  | .inr p => .dma (famS p)

theorem famS_val (p : Fin 4 × Fin 31) : (famS p).val = 8 + 31 * p.1.val + p.2.val := rfl
theorem famS_inj : Function.Injective famS := fun p q h => by
  have e : (famS p).val = (famS q).val := congrArg (fun s : DmaSem sig => s.val) h
  rw [famS_val, famS_val] at e
  have := p.2.isLt; have := q.2.isLt
  exact Prod.ext (Fin.ext (by omega)) (Fin.ext (by omega))
theorem osem_inj : Function.Injective osem := by
  rintro (i | p) (j | q) h
  · have e : i.val = j.val := congrArg (fun s : SemLoc sig => match s with | .dma s => s.val | _ => 0) h
    exact congrArg _ (Fin.ext e)
  · have e : i.val = (famS q).val := congrArg (fun s : SemLoc sig => match s with | .dma s => s.val | _ => 0) h
    rw [famS_val] at e; have := i.isLt; omega
  · have e : (famS p).val = j.val := congrArg (fun s : SemLoc sig => match s with | .dma s => s.val | _ => 0) h
    rw [famS_val] at e; have := j.isLt; omega
  · exact congrArg _ (famS_inj (by injection h))
theorem dma_scoped : ∀ s : DmaSem sig, (SemLoc.dma s : SemLoc sig).isScoped .tc = true := by decide +kernel
theorem ownFacts : Pipeline.OwnSemFacts (cfg0.spec) osem where
  isScoped k := by rcases k with i | p <;> exact dma_scoped _
  inj := osem_inj
  disj _ w := w.elim0

theorem ownSems_eq (c : Dev nD) : (Pipeline.ownSems0 osem c : sProp (MM F)) = iprop(cnts c ∗ bigSep Finset.univ fun p => cnt c (famS p)) := by
  unfold Pipeline.ownSems0
  rw [bigSep_univ_sum, bigSep_univ_eq_bigSepL [0, 1, 2, 3, 4, 5, 6, 7] (by decide) (by decide)]
  rfl

/-! ### The cells and the rights to pay -/

def barEmb : Dev nD ↪ GSem nD τ sig := ⟨fun c => barC c, fun _ _ h => congrArg (fun g : GSem nD τ sig => g.1.1) h⟩
def famEmb : Dev nD × (Fin 4 × Fin 31) ↪ GSem nD τ sig :=
  ⟨fun q => dmaC q.1 (famS q.2), fun _ _ h =>
    Prod.ext (congrArg (fun g : GSem nD τ sig => g.1.1) h) (famS_inj (by have := congrArg Prod.snd h; injection this))⟩
abbrev barCells : Finset (GSem nD τ sig) := Finset.univ.map barEmb
abbrev famCells : Finset (GSem nD τ sig) := Finset.univ.map famEmb

def barTok : Dev nD × Fin 31 ↪ GSem nD τ sig × ℕ × Fin 31 :=
  ⟨fun q => (barC q.1, 0, q.2), fun _ _ h =>
    Prod.ext (congrArg (fun t : GSem nD τ sig × ℕ × Fin 31 => t.1.1.1) h) (congrArg (fun t : GSem nD τ sig × ℕ × Fin 31 => t.2.2) h)⟩
def famTok : Dev nD × (Fin 4 × Fin 31) ↪ GSem nD τ sig × ℕ × Fin 31 :=
  ⟨fun q => (famEmb q, 0, 0), fun _ _ h => famEmb.injective (congrArg Prod.fst h)⟩
/-- Every right to pay. -/
def toks : Finset (GSem nD τ sig × ℕ × Fin 31) := Finset.univ.map barTok ∪ Finset.univ.map famTok

theorem disjoint_cells : Disjoint (barCells : Finset (GSem nD τ sig)) famCells := by
  rw [Finset.disjoint_left]
  rintro g h₁ h₂
  obtain ⟨c, -, rfl⟩ := Finset.mem_map.mp h₁
  obtain ⟨q, -, h⟩ := Finset.mem_map.mp h₂
  have e : (SemLoc.dma (famS q.2) : SemLoc sig) = .reg bar := congrArg Prod.snd h
  cases e
theorem disjoint_toks : Disjoint (Finset.univ.map barTok) (Finset.univ.map famTok) := by
  rw [Finset.disjoint_left]
  rintro t h₁ h₂
  obtain ⟨c, -, rfl⟩ := Finset.mem_map.mp h₁
  obtain ⟨q, -, h⟩ := Finset.mem_map.mp h₂
  have e : (SemLoc.dma (famS q.2) : SemLoc sig) = .reg bar := congrArg (fun t : GSem nD τ sig × ℕ × Fin 31 => t.1.2) h
  cases e

/-- Every device's peer at one distance, as a permutation of the devices. -/
def peerEquiv (o : Fin 31) : Dev nD ≃ Dev nD := ⟨fun c => peer c o, fun c => peer c (rev o), fun c => peer_rev c o, fun c => by
  have h := peer_rev c (rev o); rw [rev_rev] at h; exact h⟩

/-- Every device and distance, passed to the peer at that distance. -/
def handEquiv : Dev nD × Fin 31 ≃ Dev nD × Fin 31 :=
  ⟨fun q => (peer q.1 q.2, q.2), fun q => (peer q.1 (rev q.2), q.2), fun q => Prod.ext ((peerEquiv q.2).left_inv q.1) rfl, fun q => Prod.ext ((peerEquiv q.2).right_inv q.1) rfl⟩

/-- What every device holds at every distance, handed to the peers. -/
theorem hand (Φ : Dev nD → Fin 31 → sProp (MM F)) :
    (bigSep Finset.univ fun c => bigSep Finset.univ fun o => Φ c o) = bigSep Finset.univ fun c => bigSep Finset.univ fun o => Φ (peer c o) o :=
  (bigSep_univ_prod fun q : Dev nD × Fin 31 => Φ q.1 q.2).symm.trans
    ((bigSep_univ_equiv handEquiv fun q : Dev nD × Fin 31 => Φ q.1 q.2).trans (bigSep_univ_prod fun q : Dev nD × Fin 31 => Φ (peer q.1 q.2) q.2))

/-- The same, dealt in the order of the opposite distances. -/
theorem hand_rev (Φ : Dev nD → Fin 31 → sProp (MM F)) :
    (bigSep Finset.univ fun c => bigSep Finset.univ fun o => Φ c o) = bigSep Finset.univ fun c => bigSep Finset.univ fun o => Φ (peer c o) (rev o) := by
  rw [← hand fun c o => Φ c (rev o)]
  exact bigSep_congr fun c _ => (rev_order fun o => Φ c o).symm

/-- Every right to pay, with the device that uses it. -/
theorem toks_dealt : (bigSep toks fun x => (dutyTok ER x.1 x.2.1 x.2.2 : sProp (MM F)))
    = iprop((bigSep Finset.univ fun c => bigSep Finset.univ fun o => dutyTok ER (barC (peer c o)) 0 o) ∗ bigSep Finset.univ fun c => pays (F := F) c) := by
  unfold toks pays
  rw [bigSep_union disjoint_toks, bigSep_map, bigSep_map, bigSep_univ_prod, bigSep_univ_prod]
  refine congrArg₂ (fun a b => iprop(a ∗ b)) (hand fun c o => dutyTok ER (barC c) 0 o) ?_
  refine Eq.trans (bigSep_congr fun c _ => fam_split fun s => dutyTok ER (dmaC c s) 0 0) ?_
  rw [bigSep_sep', bigSep_sep', bigSep_sep', bigSep_sep', bigSep_sep', bigSep_sep',
    hand_rev fun c o => dutyTok ER (dmaC c (r1 o)) 0 0, hand_rev fun c o => dutyTok ER (dmaC c (r2 o)) 0 0]

/-! ### The credits -/

/-- Credits of one unit each add up. -/
theorem cred_units (c : Dev nD) : ∀ n : ℕ, (bigSep Finset.univ fun _ : Fin n => (cred (tallyAt (barC c) true 1) : sProp (MM F))) ⊢ cred (tallyAt (barC c) true n)
  | 0 => by
    rw [Finset.univ_eq_empty, bigSep_empty, tallyAt_zero, cred_zero]
    exact BI.Entails.refl _
  | n + 1 => by
    rw [bigSep_univ_succ, ← tallyAt_add (barC c) true n 1]
    iintro ⟨H0, H⟩
    ihave H := (cred_units c n) $$ H
    iapply (cred_add _ _).2
    isplitl [H]; · iexact H
    iexact H0

/-- The credits of a device, from what every device owes. -/
theorem creds_intro (c : Dev nD) : (Pipeline.launchCred O₀ c : sProp (MM F)) ⊢ creds c := by
  have hB (o : Fin 31) : (Pipeline.launchCred (fun d => dueB d o) c : sProp (MM F)) ⊢ cred (tallyAt (barC c) true 1) :=
    Pipeline.launchCred_tallyAt (.reg bar) (fun d => peer d o) (fun d => peer d (rev o)) (peerEquiv o).right_inv (peerEquiv o).left_inv true 1 c
  have h1 (o : Fin 31) : (Pipeline.launchCred (fun d => due1 d o) c : sProp (MM F)) ⊢ cred (tallyAt (dmaC c (r1 (rev o))) true N) :=
    Pipeline.launchCred_tallyAt (.dma (r1 (rev o))) (fun d => peer d o) (fun d => peer d (rev o)) (peerEquiv o).right_inv (peerEquiv o).left_inv true N c
  have h2 (o : Fin 31) : (Pipeline.launchCred (fun d => due2 d o) c : sProp (MM F)) ⊢ cred (tallyAt (dmaC c (r2 (rev o))) true N) :=
    Pipeline.launchCred_tallyAt (.dma (r2 (rev o))) (fun d => peer d o) (fun d => peer d (rev o)) (peerEquiv o).right_inv (peerEquiv o).left_inv true N c
  have e : (Pipeline.launchCred O₀ c : sProp (MM F)) = iprop((bigSep Finset.univ fun o => Pipeline.launchCred (fun d => dueB d o) c)
      ∗ (bigSep Finset.univ fun o => Pipeline.launchCred (fun d => due1 d o) c) ∗ (bigSep Finset.univ fun o => Pipeline.launchCred (fun d => due2 d o) c)) := by
    rw [← Pipeline.launchCred_sum, ← Pipeline.launchCred_sum, ← Pipeline.launchCred_sum, ← Pipeline.launchCred_add, ← Pipeline.launchCred_add]
    refine congrArg (fun O => Pipeline.launchCred O c) (funext fun d => ?_)
    unfold O₀
    rw [debt_zero, debt_zero, debt_zero]
  have iB : (bigSep Finset.univ fun o => (Pipeline.launchCred (fun d => dueB d o) c : sProp (MM F))) ⊢ cred (tallyAt (barC c) true 31) :=
    BIBase.Entails.trans (bigSep_mono fun o _ => hB o) (cred_units c 31)
  have i1 : (bigSep Finset.univ fun o => (Pipeline.launchCred (fun d => due1 d o) c : sProp (MM F))) ⊢ bigSep Finset.univ fun o => cred (tallyAt (dmaC c (r1 (rev o))) true N) :=
    bigSep_mono fun o _ => h1 o
  have i2 : (bigSep Finset.univ fun o => (Pipeline.launchCred (fun d => due2 d o) c : sProp (MM F))) ⊢ bigSep Finset.univ fun o => cred (tallyAt (dmaC c (r2 o)) true N) :=
    BIBase.Entails.trans (bigSep_mono fun o _ => h2 o) (Entails.of_eq (rev_order fun o => cred (tallyAt (dmaC c (r2 o)) true N)))
  rw [e]
  unfold creds
  iintro ⟨HB, H1, H2⟩
  ihave HB := iB $$ HB
  ihave H1 := i1 $$ H1
  ihave H2 := i2 $$ H2
  isplitl [HB]; · iexact HB
  isplitl [H1]; · iexact H1
  iexact H2

/-! ### The launch of the protocol -/

/-- The launch element of the protocol. -/
def uB : UB := launchOf barCells famCells toks

/-- The records out of the launch's invariants. -/
theorem records_intro (K : GSem nD τ sig → ℕ) :
    iprop((bigSep (barCells ∪ famCells) fun g => cellInv ER (sched A) (K g) g) ∗ bigSep barCells fun g => reached ER g 0) ⊢ records A K := by
  unfold records
  rw [bigSep_union disjoint_cells, bigSep_map, bigSep_map, bigSep_map, bigSep_univ_prod, bigSep_sep', bigSep_sep']
  refine BIBase.Entails.trans (show _ ⊢ iprop(((bigSep Finset.univ fun c => cinv A K (barC c)) ∗ bigSep Finset.univ fun c => bigSep Finset.univ fun p => cinv A K (dmaC c (famS p))) ∗ bigSep Finset.univ fun c => reached ER (barC c) 0) from BI.Entails.refl _) ?_
  iintro ⟨⟨HB, HF⟩, HR⟩
  isplitl [HB]; · iexact HB
  isplitl [HR]; · iexact HR
  iexact HF

/-- Everything dealt: from the barrier counters at rest and the launch element, every device's part. -/
theorem deal : iprop((bigSep Finset.univ fun c : Dev nD => (semVal (barC c) 0 : sProp (MM F))) ∗ BI.own (ER uB))
    ⊢ (|={Set.univ}=> bigSep Finset.univ fun c => iprop(∃ K, ghost A K c) : sProp (MM F)) := by
  have hv : (bigSep Finset.univ fun c : Dev nD => (semVal (barC c) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (barC c) 0 ∅ 0 : sProp (MM F))) :=
    Entails.of_eq (bigSep_map (s := Finset.univ) barEmb (Φ := fun g : GSem nD τ sig => (atPos ER g 0 ∅ 0 : sProp (MM F))))
  have hop : bigSep famCells (fun g => (openTok ER g : sProp (MM F))) ⊢ bigSep Finset.univ (fun c : Dev nD => bigSep Finset.univ fun p => (openTok ER (dmaC c (famS p)) : sProp (MM F))) :=
    Entails.of_eq ((bigSep_map (s := Finset.univ) famEmb (Φ := fun g : GSem nD τ sig => (openTok ER g : sProp (MM F)))).trans (bigSep_univ_prod _))
  iintro ⟨Hv, Hu⟩
  unfold uB
  imod (Rounds.fund_launch ER (sched A) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records A κ) (Φ := fun c => iprop(atPos ER (barC c) 0 ∅ 0 ∗ (bigSep Finset.univ fun p => openTok ER (dmaC c (famS p)))
    ∗ (bigSep Finset.univ fun o => dutyTok ER (barC (peer c o)) 0 o) ∗ pays c)) fun c _ => show _ ⊢ iprop(∃ K, ghost A K c) from by
      unfold ghost
      iintro H
      iexists κ
      iexact H)
  isplitr
  · iapply (records_intro A κ)
    isplitr; · iexact Hinv
    iexact Hr
  ihave Hat := hat $$ Hat
  ihave Hopen := hop $$ Hopen
  ihave Htok := (Entails.of_eq (toks_dealt (F := F))) $$ Htok
  rw [bigSep_sep', bigSep_sep', bigSep_sep']
  isplitl [Hat]; · iexact Hat
  isplitl [Hopen]; · iexact Hopen
  iexact Htok

end Cert.KernelIdeal.Ring

end
-- ==== Proof.KernelIdeal.Region.lean ====
module

public import proofs.«01_k».proof.Proof.KernelIdeal.Deal
public import proofs.«01_k».proof.Proof.Gen.KernelIdeal.Frame
public import Idealize.ShloMosaic.Lib.Pipeline.RegionTalk

/-! The kernel's call as one stretch of the program: what every device brings to it, the body run on it,
and what it leaves with. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (m : (ℓ : Loc nD τ sig) → Buf (Elt F) ℓ)

/-! ### The contents along the program -/

/-- The buffers that live through the program. -/
abbrev bufs : Finset (DevRef τ sig) := Pipeline.ucRefs τ sig

/-- A device's buffers at launch. -/
abbrev V₀ (c : Dev nD) : Valuation τ sig (Elt F) := fun b => m (c, b)
/-- A device's buffers when the kernel is called. -/
abbrev V₁ (c : Dev nD) : Valuation τ sig (Elt F) := StableHlo.after hostOps0 (V₀ m c)
/-- The partial result device `c` computes. -/
def part (c : Dev nD) : Vec F S32x16x512 .bf16 :=
  k0_pay51 (partV c (V₁ m c main_arg0) (V₁ m c main_arg1) (V₁ m c main_v2) (V₁ m c main_v4) (V₁ m c main_arg4))
/-- A device's buffers when the kernel has returned. -/
abbrev V₂ (c : Dev nD) : Valuation τ sig (Elt F) := Function.update (V₁ m c) (Proc.devRef .tc main_v5) (outV (part m) c)
/-- A device's buffers at the end. -/
abbrev V₃ (c : Dev nD) : Valuation τ sig (Elt F) := StableHlo.after hostOps1 (V₂ m c)

/-- A device's buffers, one by one. -/
theorem bufs_eq (c : Dev nD) (W : Valuation τ sig (Elt F)) : (StableHlo.held (c : Thread nD τ) bufs W : sProp (MM F))
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_arg3) ↦{fullShare} W main_arg3)
      ∗ (((c : Thread nD τ).loc main_arg4) ↦{fullShare} W main_arg4) ∗ (((c : Thread nD τ).loc main_v1) ↦{fullShare} W main_v1)
      ∗ (((c : Thread nD τ).loc main_v2) ↦{fullShare} W main_v2) ∗ (((c : Thread nD τ).loc main_v3) ↦{fullShare} W main_v3)
      ∗ (((c : Thread nD τ).loc main_v4) ↦{fullShare} W main_v4) ∗ (((c : Thread nD τ).loc main_v5) ↦{fullShare} W main_v5)
      ∗ (((c : Thread nD τ).loc main_v6) ↦{fullShare} W main_v6)) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v1, Proc.devRef .tc main_v2, Proc.devRef .tc main_v3, Proc.devRef .tc main_v4, Proc.devRef .tc main_v5, Proc.devRef .tc main_v6] (by decide) (by decide)]
  rfl

/-- The buffers the kernel is not called on. -/
def idle (c : Dev nD) : sProp (MM F) :=
  iprop((((c : Thread nD τ).loc main_arg2) ↦{fullShare} V₁ m c main_arg2) ∗ (((c : Thread nD τ).loc main_arg3) ↦{fullShare} V₁ m c main_arg3)
    ∗ (((c : Thread nD τ).loc main_v1) ↦{fullShare} V₁ m c main_v1) ∗ (((c : Thread nD τ).loc main_v3) ↦{fullShare} V₁ m c main_v3)
    ∗ (((c : Thread nD τ).loc main_v6) ↦{fullShare} V₁ m c main_v6))

/-- The operands a device calls the kernel on. -/
abbrev args (c : Dev nD) : sProp (MM F) :=
  opnds c (V₁ m c main_arg0) (V₁ m c main_arg1) (V₁ m c main_v2) (V₁ m c main_v4) (V₁ m c main_arg4)

/-- Called: the operands, the output's buffer, and the rest. -/
theorem held_before (c : Dev nD) : (StableHlo.held (c : Thread nD τ) bufs (V₁ m c) : sProp (MM F))
    ⊢ iprop(args m c ∗ (outm.view.loc (c : Thread nD τ) ↦{fullShare} (V₁ m c main_v5 : Vec F S32x16x512 .f32)) ∗ idle m c) := by
  rw [bufs_eq]
  unfold idle
  iintro ⟨H0, H1, H2, H3, H4, H5, H6, H7, H8, H9, H10⟩
  isplitl [H0 H1 H4 H6 H8]
  · isplitl [H0]; · iexact H0
    isplitl [H1]; · iexact H1
    isplitl [H6]; · iexact H6
    isplitl [H8]; · iexact H8
    iexact H4
  isplitl [H9]; · iexact H9
  isplitl [H2]; · iexact H2
  isplitl [H3]; · iexact H3
  isplitl [H5]; · iexact H5
  isplitl [H7]; · iexact H7
  iexact H10

/-- Off the output's buffer the kernel changes nothing. -/
theorem V₂_of_ne (c : Dev nD) (b : Ref sig .tc) (h : Proc.devRef (τ := τ) .tc b ≠ Proc.devRef .tc main_v5) : V₂ m c b = V₁ m c b :=
  Function.update_of_ne h ..
/-- The output's buffer holds the result. -/
theorem V₂_v5 (c : Dev nD) : V₂ m c main_v5 = outV (part m) c := Function.update_self ..

/-- Returned: the same with the output's buffer at the result. -/
theorem held_after (c : Dev nD) : iprop(args m c ∗ (outm.view.loc (c : Thread nD τ) ↦{fullShare} outV (part m) c) ∗ idle m c)
    ⊢ (StableHlo.held (c : Thread nD τ) bufs (V₂ m c) : sProp (MM F)) := by
  rw [bufs_eq, V₂_v5, V₂_of_ne m c main_arg0 (by decide), V₂_of_ne m c main_arg1 (by decide), V₂_of_ne m c main_arg2 (by decide), V₂_of_ne m c main_arg3 (by decide),
    V₂_of_ne m c main_arg4 (by decide), V₂_of_ne m c main_v1 (by decide), V₂_of_ne m c main_v2 (by decide), V₂_of_ne m c main_v3 (by decide), V₂_of_ne m c main_v4 (by decide),
    V₂_of_ne m c main_v6 (by decide)]
  unfold idle
  iintro ⟨⟨H0, H1, H6, H8, H4⟩, H9, H2, H3, H5, H7, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ### The call -/

/-- What a device enters the kernel with, beside its scratch. -/
def enter (c : Dev nD) : sProp (MM F) :=
  iprop((∃ K, opened (part m) K c) ∗ creds c ∗ levAts L lv ∗ cnts c ∗ StableHlo.held (c : Thread nD τ) bufs (V₁ m c))
/-- What it leaves with: its own counters at zero, the result in place. -/
def leave (c : Dev nD) : sProp (MM F) :=
  iprop(semVal (barC c) 0 ∗ (cnts c ∗ bigSep Finset.univ fun p => cnt c (famS p)) ∗ StableHlo.held (c : Thread nD τ) bufs (V₂ m c))

/-- The call's one point: before it everything is owed, after it nothing. -/
def dat (c : Dev nD) : Pipeline.Dat τ (Elt F) Bool ℕ UU ℕ cfg0 c where
  A w := w.elim0
  after w := w.elim0
  Φ t := if t.val = 0 then iprop(enter m c ∗ scr c ∗ ∃ r, prngReg c r) else iprop(leave m c ∗ scr c ∗ ∃ r, prngReg c r)
  q w := w.elim0
  owed t := if t.val = 0 then O₀ c else 0

abbrev adm : (p : Fin 1) → (pcfgs (F := F) p).Adm := fun p => (cfgs p).toPCfg_adm
/-- The same for the one call of the program. -/
def pdats : (p : Fin 1) → (c : Dev nD) → Pipeline.Dat τ (Elt F) Bool ℕ UU ℕ (Pipeline.pin (pcfgs (F := F)) adm p) c := fun _ => dat m

theorem bigSep_none {M : Type} [URA M] (Φ : Fin 0 → sProp M) : bigSep Finset.univ Φ = (BI.emp : sProp M) :=
  bigSep_univ_eq_bigSepL [] (by decide) (by decide) Φ

theorem owed_zero (c : Dev nD) : (pdats (F := F) m 0 c).owed 0 = O₀ c := by
  show (if ((0 : Fin (cfg0.N + 1)).val = 0) then O₀ c else 0) = O₀ c; exact if_pos rfl
theorem owed_first (c : Dev nD) : (dat (F := F) m c).owed (t0_0 : Fin cfg0.N).castSucc = O₀ c := by
  show (if ((t0_0 : Fin cfg0.N).castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- Owing `O` with any record of waits is owing what the point says. -/
theorem owesAt_intro {cfg : Pipeline.Cfg sig Λ₀} {c : Dev nD} (d : Pipeline.Dat τ (Elt F) Bool ℕ UU ℕ cfg c) (t : Fin (cfg.N + 1))
    (O : CellTallies nD τ sig Bool) (h0 : d.owed t = O) (hr : d.recorded t = Set.univ) (W : Waits sig Bool) :
    (owes (c : Thread nD τ) O W : sProp (MM F)) ⊢ (d.owesAt false t : sProp (MM F)) := by
  unfold Pipeline.Dat.owesAt Pipeline.owesWithin Pipeline.Dat.bound; rw [h0, hr]
  iintro HO; iexists W; isplitr; · ipureintro; exact fun _ _ => Or.inl trivial
  iexact HO
/-- And back, the record forgotten. -/
theorem owesAt_elim {cfg : Pipeline.Cfg sig Λ₀} {c : Dev nD} (d : Pipeline.Dat τ (Elt F) Bool ℕ UU ℕ cfg c) (t : Fin (cfg.N + 1))
    (O : CellTallies nD τ sig Bool) (h0 : d.owed t = O) :
    (d.owesAt false t : sProp (MM F)) ⊢ iprop(∃ W, owes (c : Thread nD τ) O W) := by
  unfold Pipeline.Dat.owesAt Pipeline.owesWithin; rw [h0]
  iintro ⟨%W, -, HO⟩; iexists W; iexact HO

/-- What the call runs is the body. -/
theorem called (t : Fin cfg0.N) : defs₀ (F := F) .tc cfg0.body (cfg0.bodyArgs t (cfg0.slots t)) = body := by
  unfold defs₀; rw [Defs.onTc_tc]
  exact body_eq t

set_option maxHeartbeats 1000000 in
/-- The body run at the call's one point. -/
theorem body_point (c : Dev nD) : Pipeline.BodyObligation (dat (F := F) m c) defs₀ 𝒱₀ false Set.univ := fun t => by
  obtain rfl := fin_N0 t
  rw [bigSep_none, bigSep_none]
  rw [show (dat m c).Φ (t0_0 : Fin cfg0.N).castSucc = iprop(enter m c ∗ scr c ∗ ∃ r, prngReg c r) from rfl,
    show (dat m c).Φ (t0_0 : Fin cfg0.N).succ = iprop(leave m c ∗ scr c ∗ ∃ r, prngReg c r) from rfl]
  rw [called]
  unfold enter leave
  iintro ⟨⟨⟨⟨%K, Hg⟩, Hcr, Hlev, Hcn, Hh⟩, Hs, Hreg⟩, HO, -⟩
  ihave HO' := (owesAt_elim (dat m c) _ (O₀ c) (owed_first m c)) $$ HO
  icases HO' with ⟨%W, HO⟩
  ihave Hh' := (held_before m c) $$ Hh
  icases Hh' with ⟨Hop, H5, Hid⟩
  iapply (wp_body (part m) K c W _ _ _ _ _ _ rfl _)
  isplitl [Hg]; · iexact Hg
  isplitl [Hcr]; · iexact Hcr
  isplitl [Hlev]; · iexact Hlev
  isplitl [HO]; · iexact HO
  isplitl [Hop]; · iexact Hop
  isplitl [H5]; · iexact H5
  isplitl [Hs]; · iexact Hs
  isplitl [Hcn]; · iexact Hcn
  iintro ⟨⟨Hb, Hf⟩, Hop, H5, Hs, Hcn, ⟨%W', HO⟩⟩
  isplitr [HO]
  · isplitr [Hs Hreg]
    · isplitl [Hb]; · iexact Hb
      isplitl [Hcn Hf]; · isplitl [Hcn] <;> iassumption
      iapply (held_after m c)
      isplitl [Hop]; · iexact Hop
      isplitl [H5]; · iexact H5
      iexact Hid
    isplitl [Hs]; · iexact Hs
    iexact Hreg
  isplitl [HO]; · iapply (owesAt_intro (dat m c) (t0_0 : Fin cfg0.N).succ 0 (owed_last m c) rfl W'); iexact HO
  iempintro

/-! ### The stretches of the program -/

local notation "ℍ" => Pipeline.HostSeg (Name := ℕ) (U := UU) (pcfgs (F := F)) defs₀ 𝒱₀ L lv
local notation "ℝ𝕊" => Pipeline.RegionSeg (pcfgs (F := F)) adm (pdats m) false defs₀ 𝒱₀ L lv

/-- What launch deals to a device for the protocol. -/
def dealt (c : Dev nD) : sProp (MM F) := iprop((∃ K, ghost (part m) K c) ∗ creds c)
/-- The same with its cells open, and the counters of the local transfers. -/
def ready (c : Dev nD) : sProp (MM F) := iprop((∃ K, opened (part m) K c) ∗ creds c ∗ levAts L lv ∗ cnts c)

/-- Opening a device's cells as it enters the kernel. -/
theorem enter_open (c : Dev nD) : iprop(dealt m c ∗ Pipeline.ownSems0 osem c ∗ levAts L lv) ⊢ (|={Set.univ}=> ready m c : sProp (MM F)) := by
  rw [ownSems_eq]
  unfold dealt ready
  iintro ⟨⟨⟨%K, Hg⟩, Hcr⟩, ⟨Hc, Hf⟩, Hlev⟩
  imod (open_cells (part m) K c) $$ [Hg Hf] with Ho
  · isplitl [Hg] <;> iassumption
  imodintro
  isplitl [Ho]; · iexists K; iexact Ho
  isplitl [Hcr]; · iexact Hcr
  isplitl [Hlev]; · iexact Hlev
  iexact Hc

theorem scratch_eq (c : Dev nD) : (Pipeline.scopedRest (Ix := Bool) (Name := ℕ) (U := UU) (Lvl := ℕ) (Val := Elt F) (Pipeline.pin (pcfgs (F := F)) adm 0).spec c : sProp (MM F)) = scr c :=
  scopedRest0_eq c

theorem enter_eq (c : Dev nD) : iprop(Pipeline.scopedRest (Pipeline.pin (pcfgs (F := F)) adm 0).spec c ∗ (∃ r, prngReg c r) ∗ StableHlo.held (c.tc : Thread nD τ) bufs (V₁ m c) ∗ ready m c)
    ⊢ (pdats m 0 c).Φ 0 := by
  rw [show (pdats m 0 c).Φ 0 = iprop(enter m c ∗ scr c ∗ ∃ r, prngReg c r) from rfl, scratch_eq]
  unfold enter ready
  iintro ⟨Hs, Hp, Hh, HK, Hcr, Hlev, Hc⟩
  isplitl [Hh HK Hcr Hlev Hc]
  · isplitl [HK]; · iexact HK
    isplitl [Hcr]; · iexact Hcr
    isplitl [Hlev]; · iexact Hlev
    isplitl [Hc]; · iexact Hc
    iexact Hh
  isplitl [Hs]; · iexact Hs
  iexact Hp

theorem leave_eq (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufs (V₂ m c) ∗ Pipeline.ownSems0 osem c ∗ semVal (barC c) 0) := by
  rw [show (pdats m 0 c).Φ (Fin.last _) = iprop(leave m c ∗ scr c ∗ ∃ r, prngReg c r) from rfl, scratch_eq, ownSems_eq]
  unfold leave
  iintro ⟨⟨Hb, Hc, Hh⟩, Hs, Hp⟩
  isplitl [Hs]; · iexact Hs
  isplitl [Hp]; · iexact Hp
  isplitl [Hh]; · iexact Hh
  isplitl [Hc]; · iexact Hc
  iexact Hb

theorem launchKit : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

/-- Everything owed at the call lies above the local transfers. -/
theorem owed_above (c : Dev nD) : Above 1 (O₀ c) :=
  above_add _ _ _ (above_B c 0) (above_add _ _ _ ((above_1 c 0).mono (by decide)) ((above_2 c 0).mono (by decide)))

theorem cut (c : Dev nD) (t : Fin ((Pipeline.pin (pcfgs (F := F)) adm 0).N + 1)) (g : GSem nD τ sig) (i : Bool) (h : 0 < (pdats (F := F) m 0 c).owed t g i) :
    i ∈ L g ∧ (0 : ℕ) < lv g i := by
  have e : (pdats (F := F) m 0 c).owed t = if t.val = 0 then O₀ c else 0 := rfl
  rw [e] at h
  split at h
  · exact owed_above c g i h
  · exact absurd h (Nat.lt_irrefl 0)

set_option backward.isDefEq.respectTransparency.types false in
/-- The call. -/
def region : ℝ𝕊 0 :=
  Pipeline.RegionSeg.ofTalk (pcfgs (F := F)) adm (pdats m) false defs₀ 𝒱₀ L lv 0 osem ownFacts
    bufs bufs (Finset.Subset.refl _) launchKit rfl (fun c => (body_point m c).loose)
    (fun _ => 0) O₀ (fun c => (owed_zero m c).trans (zero_add _).symm) (owed_last m) (fun _ => rfl) (fun _ w => w.elim0)
    (V₁ m) (V₂ m) (fun _ b hb => absurd hb (by rw [Finset.sdiff_self]; exact Finset.notMem_empty b))
    (dealt m) (fun c => semVal (barC c) 0) (ready m) (fun c => semVal (barC c) 0) (enter_open m) (enter_eq m) (leave_eq m)
    (fun c => by iintro H; imodintro; iexact H)
    (fun _ => 0)
    ⟨fun _ w => w.elim0, fun _ w => w.elim0, fun c t g i h => cut m c t g i h⟩
    (fun _ => iprop(emp))
    (fun _ w => w.elim0) (fun _ w => w.elim0)

end Cert.KernelIdeal.Ring

end
-- ==== Proof.KernelIdeal.Main.lean ====
module

public import proofs.«01_k».proof.Proof.KernelIdeal.Region

/-! The whole program run from any memory: the arguments end unchanged, the result is what the kernel
leaves, and every semaphore is at rest. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (m : (ℓ : Loc nD τ sig) → Buf (Elt F) ℓ) (ρ : Dev nD → PrngReg)

local notation "ℍ" => Pipeline.HostSeg (Name := ℕ) (U := UU) (pcfgs (F := F)) defs₀ 𝒱₀ L lv

/-! ### The stretches around the call -/

/-- What a device carries from launch to the call, beside its buffers. -/
def carried (c : Dev nD) : sProp (MM F) := iprop(dealt m c ∗ (∃ r, prngReg c r) ∗ ∃ W, owes (c : Thread nD τ) (O₀ c) W)
/-- And after it. -/
def settled (c : Dev nD) : sProp (MM F) := iprop(semVal (barC c) 0 ∗ ∃ W, owes (c : Thread nD τ) (0 : CellTallies nD τ sig Bool) W)

/-- The reshapes and transposes before the call. -/
def before : ℍ := Pipeline.HostSeg.ofOps _ _ _ _ _ bufs hostOps0
  (fun op h => Pipeline.sub_ucRefs op (List.forall_iff_forall_mem.mp hostOps0_sub op h)) (List.forall_iff_forall_mem.mp hostOps0_fresh) (V₀ m) (carried m)
/-- The reshape after it. -/
def after : ℍ := Pipeline.HostSeg.ofOps _ _ _ _ _ bufs hostOps1
  (fun op h => Pipeline.sub_ucRefs op (List.forall_iff_forall_mem.mp hostOps1_sub op h)) (List.forall_iff_forall_mem.mp hostOps1_fresh) (V₂ m) (settled (F := F))

set_option backward.isDefEq.respectTransparency.types false in
theorem held_none (c : Dev nD) (W : Valuation τ sig (Elt F)) :
    (StableHlo.held (c.tc : Thread nD τ) (Pipeline.arrRefs (τ := τ) (pcfgs (F := F) 0).spec) W : sProp (MM F)) = BI.emp := by
  have h : Pipeline.arrRefs (τ := τ) (pcfgs (F := F) 0).spec = ∅ := by
    unfold Pipeline.arrRefs
    rw [Finset.map_eq_empty, Finset.image_eq_empty, Finset.univ_eq_empty]
  rw [h]
  unfold StableHlo.held
  exact BI.bigSep_empty

theorem region_pre (c : Dev nD) : iprop(StableHlo.held (c : Thread nD τ) bufs (V₁ m c) ∗ carried m c) ⊢ (region m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ dealt m c ∗ ∃ Wd, owes (c : Thread nD τ) (0 + O₀ c) Wd)
  rw [held_none, zero_add]
  unfold carried
  iintro ⟨Hh, Hd, Hp, HO⟩
  isplitr; · iempintro
  isplitl [Hp]; · iexact Hp
  isplitl [Hh]
  · isplitl [Hh]; · iexact Hh
    iempintro
  isplitl [Hd]; · iexact Hd
  iexact HO

theorem region_post (c : Dev nD) : (region m).post c ⊢ iprop(StableHlo.held (c : Thread nD τ) bufs (V₂ m c) ∗ settled c) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ semVal (barC c) 0 ∗ ∃ Wd, owes (c : Thread nD τ) (0 : CellTallies nD τ sig Bool) Wd) ⊢ _
  rw [held_none]
  unfold settled
  iintro ⟨-, -, ⟨Hh, -⟩, Hb, HO⟩
  isplitl [Hh]; · iexact Hh
  isplitl [Hb]; · iexact Hb
  iexact HO

/-- The program as its three stretches. -/
def segs : List (Pipeline.Seg (pcfgs (F := F)) adm (pdats m) false defs₀ 𝒱₀ L lv) := [.host (before m), .region (region m), .host (after m)]

theorem main_eq (c : Dev nD) : main (F := F) c = Pipeline.Seg.run (segs m) :=
  main_segs adm (pdats m) false 𝒱₀ L lv (before m) (after m) (region m) rfl rfl c

/-! ### The launch -/

/-- The launch element: the call's own (it stages nothing), and the protocol's. -/
def u₀ : UU :=
  (initOf (Pipeline.cells (Pipeline.pin (pcfgs (F := F)) adm) cellOf_inj) (Pipeline.launchToks (Pipeline.pin (pcfgs (F := F)) adm) cellOf_inj), (uB, 1))

/-- A resource held by one device, nothing by the others. -/
def onDev (c₀ : Dev nD) (X : sProp (MM F)) (c : Dev nD) : sProp (MM F) := if c = c₀ then X else iprop(emp)
theorem bigSep_onDev (c₀ : Dev nD) (X : sProp (MM F)) : bigSep Finset.univ (onDev c₀ X) = X := by
  rw [bigSep_univ_at _ c₀, bigSep_congr (s := Finset.univ.erase c₀) (Ψ := fun _ => (BI.emp : sProp (MM F)))
      fun c hc => by unfold onDev; rw [if_neg (Finset.ne_of_mem_erase hc)]; rfl, BI.bigSep_emp_const]
  unfold onDev; rw [if_pos rfl]
  exact BI.equiv_iff.mp sep_emp

/-- The protocol's launch element waits with device 0 until everything is dealt at once. -/
def parked : Dev nD → sProp (MM F) := onDev 0 (BI.own (ER uB))

theorem unscopedSems_eq (c : Dev nD) : (unscopedSems0 c : sProp (MM F)) = semVal (barC c) 0 := by
  unfold unscopedSems0
  rw [show (Finset.univ.filter fun sm : SemLoc sig => ¬ sm.isScoped .tc) = {SemLoc.reg bar} from by
    ext sm
    simp only [Finset.mem_filter, Finset.mem_univ, true_and, Finset.mem_singleton]
    rcases sm with s | s
    · exact ⟨fun _ => congrArg SemLoc.reg (Subsingleton.elim _ _), fun h => by rw [h]; decide⟩
    · exact ⟨fun h => absurd (dma_scoped s) h, fun h => by cases h⟩, BI.bigSep_singleton]

/-- What each device starts from. -/
abbrev T₀ (c : Dev nD) : sProp (MM F) := iprop(StableHlo.held (c : Thread nD τ) bufs (V₀ m c) ∗ carried m c)
/-- What each device ends with. -/
abbrev Tₙ (c : Dev nD) : sProp (MM F) := iprop(StableHlo.held (c : Thread nD τ) bufs (V₃ m c) ∗ semVal (barC c) 0)

/-- Of what a device is launched with, all but the protocol's ghost state. -/
def bundle (c : Dev nD) : sProp (MM F) :=
  iprop(StableHlo.held (c : Thread nD τ) bufs (V₀ m c) ∗ creds c ∗ owes (c : Thread nD τ) (O₀ c) ∅ ∗ ∃ r, prngReg c r)

theorem start_intro (c : Dev nD) : iprop((∃ K, ghost (part m) K c) ∗ bundle m c) ⊢ T₀ m c := by
  unfold bundle T₀ carried dealt
  iintro ⟨Hg, Hh, Hcr, HO, Hp⟩
  isplitl [Hh]; · iexact Hh
  isplitl [Hg Hcr]; · isplitl [Hg] <;> iassumption
  isplitl [Hp]; · iexact Hp
  iexists ∅; iexact HO

/-- The launch dealt to the devices. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp (MM F)) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(bundle m c ∗ (semVal (barC c) 0 ∗ parked c)) : sProp (MM F)) := by
    rw [show unscopedBufs c (fun b => m ((c : Thread nD τ).loc b)) = StableHlo.held (c : Thread nD τ) bufs (V₀ m c) from Pipeline.unscopedBufs_held c (V₀ m c),
      unscopedSems_eq]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (iprop((bigSep Finset.univ fun c : Dev nD => bundle m c) ∗ (bigSep Finset.univ fun c : Dev nD => semVal (barC c) 0) ∗ bigSep Finset.univ parked) : sProp (MM F)) := by
    refine BIBase.Entails.trans (bigSep_mono fun c _ => hcore c) (Entails.of_eq ?_)
    rw [bigSep_sep', bigSep_sep']
  have hu : bigSep Finset.univ (parked (F := F)) ⊢ BI.own (ER uB) := Entails.of_eq (bigSep_onDev (F := F) 0 (BI.own (ER uB)))
  have hend : iprop((bigSep Finset.univ fun c : Dev nD => iprop(∃ K, ghost (part m) K c)) ∗ bigSep Finset.univ fun c : Dev nD => bundle m c) ⊢ (bigSep Finset.univ (T₀ m) : sProp (MM F)) := by
    refine BIBase.Entails.trans (Entails.of_eq ?_) (bigSep_mono fun c _ => start_intro m c)
    rw [bigSep_sep']
  iintro ⟨H, -⟩
  ihave H' := hall $$ H
  icases H' with ⟨HB, Hv, HG⟩
  ihave Hu := hu $$ HG
  imod (deal (part m)) $$ [Hv Hu] with Hg
  · isplitl [Hv]; · iexact Hv
    iexact Hu
  imodintro
  iapply hend
  isplitl [Hg]; · iexact Hg
  iexact HB

/-! ### The run -/

/-- A buffer the program never writes ends as it was launched. -/
theorem V₃_of (c : Dev nD) (b : Ref sig .tc) (h1 : ∀ op ∈ (hostOps1 : List (HloOp τ sig (Elt F))), Proc.devRef .tc b ∉ op.writes)
    (h5 : Proc.devRef (τ := τ) .tc b ≠ Proc.devRef .tc main_v5) (hV : V m c b = m ((c : Thread nD τ).loc b)) : V₃ m c b = m ((c : Thread nD τ).loc b) := by
  show StableHlo.after hostOps1 (V₂ m c) (Proc.devRef .tc b) = _
  rw [StableHlo.after_of_forall_not_mem _ _ h1]
  exact (V₂_of_ne m c b h5).trans hV

theorem V₃_arg0 (c : Dev nD) : V₃ m c main_arg0 = m ((c : Thread nD τ).loc main_arg0) :=
  V₃_of m c _ (fun op h => by rw [List.mem_singleton.mp h, StableHlo.reshape_writes, Finset.mem_singleton]; decide) (by decide) (V_main_arg0 m c)
theorem V₃_arg1 (c : Dev nD) : V₃ m c main_arg1 = m ((c : Thread nD τ).loc main_arg1) :=
  V₃_of m c _ (fun op h => by rw [List.mem_singleton.mp h, StableHlo.reshape_writes, Finset.mem_singleton]; decide) (by decide) (V_main_arg1 m c)
theorem V₃_arg2 (c : Dev nD) : V₃ m c main_arg2 = m ((c : Thread nD τ).loc main_arg2) :=
  V₃_of m c _ (fun op h => by rw [List.mem_singleton.mp h, StableHlo.reshape_writes, Finset.mem_singleton]; decide) (by decide) (V_main_arg2 m c)
theorem V₃_arg3 (c : Dev nD) : V₃ m c main_arg3 = m ((c : Thread nD τ).loc main_arg3) :=
  V₃_of m c _ (fun op h => by rw [List.mem_singleton.mp h, StableHlo.reshape_writes, Finset.mem_singleton]; decide) (by decide) (V_main_arg3 m c)
theorem V₃_arg4 (c : Dev nD) : V₃ m c main_arg4 = m ((c : Thread nD τ).loc main_arg4) :=
  V₃_of m c _ (fun op h => by rw [List.mem_singleton.mp h, StableHlo.reshape_writes, Finset.mem_singleton]; decide) (by decide) (V_main_arg4 m c)

/-- Outside the scoped semaphores there is only the barrier's. -/
theorem unscoped_eq (sm : SemLoc sig) (h : sm.isScoped .tc = false) : sm = .reg bar := by
  rcases sm with s | s
  · exact congrArg SemLoc.reg (Subsingleton.elim _ _)
  · rw [dma_scoped s] at h; cases h

set_option backward.isDefEq.respectTransparency.types false in
/-- From any memory with every semaphore at rest, the program terminates on every device, with the
arguments unchanged, the result at what the kernel leaves reshaped, and every semaphore at rest. -/
theorem run_main : θ_run defs (onTc (τ := τ) (main (F := F))) ⟨m, fun _ => 0, ρ⟩
    (fun r => (∀ c : Dev nD, r.2.mem ((c : Thread nD τ).loc main_v6) = V₃ m c main_v6
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) false cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀)
    (hu₀ := by
      unfold u₀ parked
      iintro Hu
      ihave H := (ownU_pair _ _) $$ Hu
      icases H with ⟨HP, HX⟩
      ihave HX' := (own_pair_emb embR uB (1 : Counters)) $$ HX
      icases HX' with ⟨HX, -⟩
      imodintro
      isplitl [HP]; · iexact HP
      rw [bigSep_onDev]; iexact HX)
    (T₀ := T₀ m) (Tₙ := Tₙ m)
    (hch := by
      refine ⟨fun c => .rfl, fun c => region_pre m c, fun c => region_post m c, fun c => ?_⟩
      show iprop(StableHlo.held (c : Thread nD τ) bufs (V₃ m c) ∗ settled c)
        ⊢ iprop(Tₙ m c ∗ ∃ W, owes (c : Thread nD τ) (0 : CellTallies nD τ sig Bool) W)
      unfold settled
      iintro ⟨Hh, Hb0, HO⟩
      isplitr [HO]
      · isplitl [Hh] <;> iassumption
      · iexact HO)
    (hinit := init m ρ)
    (QY := fun c s => (s.mem ((c : Thread nD τ).loc main_v6) = V₃ m c main_v6
      ∧ s.mem ((c : Thread nD τ).loc main_arg0) = V₃ m c main_arg0 ∧ s.mem ((c : Thread nD τ).loc main_arg1) = V₃ m c main_arg1
      ∧ s.mem ((c : Thread nD τ).loc main_arg2) = V₃ m c main_arg2 ∧ s.mem ((c : Thread nD τ).loc main_arg3) = V₃ m c main_arg3
      ∧ s.mem ((c : Thread nD τ).loc main_arg4) = V₃ m c main_arg4)
      ∧ s.sem (barC c) = 0)
    (hfin := fun c s' => by
      dsimp only [Tₙ]; rw [bufs_eq]
      iintro ⟨⟨⟨H0, H1, H2, H3, H4, -, -, -, -, -, H6⟩, Hb0⟩, HSI⟩
      icombine HSI H0 gives %h0
      icombine HSI H1 gives %h1
      icombine HSI H2 gives %h2
      icombine HSI H3 gives %h3
      icombine HSI H4 gives %h4
      icombine HSI H6 gives %h6
      icombine HSI Hb0 gives %hb
      imodintro
      isplitr
      · ipureintro
        exact ⟨⟨Buf.eq_of_forall_mem_univ h6, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨h6, h0, h1, h2, h3, h4⟩, -⟩ := h c
        exact ⟨h6, h0.trans (V₃_arg0 m c), h1.trans (V₃_arg1 m c), h2.trans (V₃_arg2 m c), h3.trans (V₃_arg3 m c), h4.trans (V₃_arg4 m c)⟩,
      sem_eq_zero hs fun c sm hsm => by
        obtain rfl := unscoped_eq sm hsm
        exact (h c).2⟩)

end Cert.KernelIdeal.Ring

end
-- ==== Proof.Values.Formula.lean ====
module

public import Idealize.ShloMosaic.Lib.Pointwise

/-! The mathematics both programs compute, on extended reals: the masked attention of one head of one
batch, and the product of all heads with the output weights. -/

@[expose] public section

noncomputable section

namespace Cert.Values

open Idealize.ShloMosaic

/-- The mask: query row `i` sees key row `j` where the block of 64 rows of `j` is not after that of `i`. -/
def keep (i j : Fin 256) : BitVec 1 := BitVec.ofBool (decide (j.val / 64 ≤ i.val / 64))

/-- The scaled and masked scores of a head with queries `q` and keys `k`. -/
def score (q k : Fin 256 → Fin 64 → EReal) (i j : Fin 256) : EReal :=
  Scalar.select (keep i j) ((∑ d : Fin 64, q i d * k j d) * Ideal.ofBits .f32 0x3E000000#32) (Ideal.ofBits .f32 0xCE6E6B28#32)

/-- The exponential of a score less the greatest of its row. -/
def weight (q k : Fin 256 → Fin 64 → EReal) (i j : Fin 256) : EReal :=
  Ideal.exp (score q k i j - (Finset.univ : Finset (Fin 256)).fold max (Ideal.ofBits .f32 0xFF800000#32) fun l => score q k i l)

/-- The attention of a head: the values averaged by the normalised weights. -/
def attend (q k v : Fin 256 → Fin 64 → EReal) (i : Fin 256) (d : Fin 64) : EReal :=
  ∑ j : Fin 256, Ideal.div (weight q k i j) (∑ l : Fin 256, weight q k i l) * v j d

end Cert.Values

end
-- ==== Proof.Values.Head.lean ====
module

public import proofs.«01_k».proof.Proof.KernelIdeal.Compute
public import proofs.«01_k».proof.Proof.Values.Formula

/-! The attention of a device's heads as the body computes it, and the device's partial product, read at
an index. -/

@[expose] public section

set_option maxRecDepth 16384

noncomputable section

namespace Cert.KernelIdeal.Ring

open Idealize.ShloMosaic Idealize.ShloMosaic.TcCoe
open Cert.KernelIdeal Cert.KernelIdeal.Gen Cert.Values

/-- The mask of the body is the mask of the formula. -/
theorem maskV_apply (i j : Fin 256) : maskV (ix2 i j) = keep i j := by
  pointwise [maskV, k0_pay39, k0_pay36, k0_pay37, k0_pay38]
  have ha : ∀ j : Fin 256, Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            1#32)
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32) = BitVec.ofNat 32 (j.val / 64) := by decide +kernel
  have hc : ∀ a b : Fin 4, IntOp.cmpi CmpIPredicate.sle (BitVec.ofNat 32 a.val) (BitVec.ofNat 32 b.val) = BitVec.ofBool (decide (a.val ≤ b.val)) := by decide +kernel
  exact (congrArg₂ (IntOp.cmpi CmpIPredicate.sle) (ha j) (ha i)).trans (hc ⟨j.val / 64, by omega⟩ ⟨i.val / 64, by omega⟩)

/-- The queries of head `h` of batch `b` among all of a device's. -/
def headQ (q : FVec Ideal S512x256 .f32) (b : Fin 2) (h : Fin 4) (i : Fin 256) (d : Fin 64) : EReal :=
  q (ix2 ⟨256 * b.val + i.val, by omega⟩ ⟨64 * h.val + d.val, by omega⟩)

/-- The rows of a head's keys or values. -/
def rows (k : Vec Ideal S1x256x64 .bf16) (j : Fin 256) (d : Fin 64) : EReal := k (ix3 0 j d)

section heads

variable (q : FVec Ideal S512x256 .f32) (k v : Vec Ideal S1x256x64 .bf16) (i : Fin 256) (d : Fin 64)

/-- Head 0 of batch 0. -/
theorem head00 : k0_pay40 q k0_pay36 (iota .tc S256x256 32 [1] iota_S256x256_d1_w32) 64#32 k0_pay37 k0_pay38 1#32 0#32 k v (ix2 i d)
    = attend (headQ q 0 0) (rows k) (rows v) i d := by
  have hm : ∀ i j, k0_pay39 k0_pay36 (iota .tc S256x256 32 [1] iota_S256x256_d1_w32) 64#32 k0_pay37 k0_pay38 1#32 0#32 (ix2 i j) = keep i j := maskV_apply
  pointwise [k0_pay40]
  simp only [hm]
  unfold attend weight score headQ rows
  simp only [Fin.val_zero, Nat.mul_zero, Nat.zero_add]

/-- Head 1 of batch 0. -/
theorem head01 : k0_pay42 maskV (k0_pay41 q k) v (ix2 i d) = attend (headQ q 0 1) (rows k) (rows v) i d := by
  pointwise [k0_pay42, k0_pay41]
  simp only [maskV_apply]
  unfold attend weight score headQ rows
  simp only [Fin.val_zero, Fin.val_one, Nat.mul_zero, Nat.zero_add]

/-- Head 2 of batch 0. -/
theorem head02 : k0_pay43 q maskV k v (ix2 i d) = attend (headQ q 0 2) (rows k) (rows v) i d := by
  pointwise [k0_pay43]
  simp only [maskV_apply]
  unfold attend weight score headQ rows
  simp only [Fin.val_zero, Nat.mul_zero, Nat.zero_add]
  rfl

/-- Head 0 of batch 1. -/
theorem head10 : k0_pay47 (k0_pay46 q maskV k) v (ix2 i d) = attend (headQ q 1 0) (rows k) (rows v) i d := by
  pointwise [k0_pay47, k0_pay46]
  simp only [maskV_apply]
  unfold attend weight score headQ rows
  simp only [Fin.val_zero, Fin.val_one, Nat.mul_zero, Nat.mul_one, Nat.zero_add]

/-- Head 1 of batch 1. -/
theorem head11 : k0_pay48 q maskV k v (ix2 i d) = attend (headQ q 1 1) (rows k) (rows v) i d := by
  pointwise [k0_pay48]
  simp only [maskV_apply]
  unfold attend weight score headQ rows
  rfl

end heads

/-- All the heads of batch 0, side by side. -/
theorem batch0 (q : FVec Ideal S512x256 .f32) (a0 a1 a2 : FVec Ideal S256x64 .f32) (k v : Vec Ideal S1x256x64 .bf16) (i t : Fin 256) :
    k0_pay45 maskV a0 a1 a2 (k0_pay44 q) k v (ix2 i t)
      = if h0 : t.val < 64 then a0 (ix2 i ⟨t.val, h0⟩) else if h1 : t.val - 64 < 64 then a1 (ix2 i ⟨t.val - 64, h1⟩)
        else if h2 : t.val - 64 - 64 < 64 then a2 (ix2 i ⟨t.val - 64 - 64, h2⟩)
        else attend (headQ q 0 3) (rows k) (rows v) i ⟨t.val - 64 - 64 - 64, by omega⟩ := by
  pointwise [k0_pay45, k0_pay44]
  simp only [maskV_apply]
  unfold attend weight score headQ rows
  simp only [Fin.val_zero, Nat.mul_zero, Nat.zero_add]
  rfl

/-- A device's partial product from its queries, the keys and values of its heads, and its rows of the output weights. -/
def product (q : FVec Ideal S512x256 .f32) (k v : Fin 2 → Fin 4 → Vec Ideal S1x256x64 .bf16) (wo : Vec Ideal S256x512 .f32) : FVec Ideal S512x512 .f32 :=
  k0_pay50 q maskV
    (k0_pay45 maskV
      (k0_pay40 q k0_pay36 (iota .tc S256x256 32 [1] iota_S256x256_d1_w32) 64#32 k0_pay37 k0_pay38 1#32 0#32 (k 0 0) (v 0 0))
      (k0_pay42 maskV (k0_pay41 q (k 0 1)) (v 0 1)) (k0_pay43 q maskV (k 0 2) (v 0 2)) (k0_pay44 q) (k 0 3) (v 0 3))
    (k0_pay47 (k0_pay46 q maskV (k 1 0)) (v 1 0)) (k0_pay48 q maskV (k 1 1) (v 1 1)) (k0_pay49 q maskV (k 1 2)) (v 1 2) (k 1 3) (v 1 3) wo

/-- Four functions of 64 places laid side by side, as a case distinction on the place. -/
theorem ladder (f : Fin 4 → Fin 64 → EReal) (t : Fin 256) :
    (if h0 : t.val < 64 then f 0 ⟨t.val, h0⟩ else if h1 : t.val - 64 < 64 then f 1 ⟨t.val - 64, h1⟩
      else if h2 : t.val - 64 - 64 < 64 then f 2 ⟨t.val - 64 - 64, h2⟩ else f 3 ⟨t.val - 64 - 64 - 64, by omega⟩)
      = f ⟨t.val / 64, by omega⟩ ⟨t.val % 64, by omega⟩ := by
  split_ifs
  all_goals exact congrArg₂ f (Fin.ext (by simp only [Fin.val_zero, Fin.val_one, Fin.val_two, Fin.isValue]; omega)) (Fin.ext (by dsimp only; omega))

/-- A sum over 256 places by four groups of 64. -/
theorem sum_four (f : Fin 4 → Fin 64 → EReal) (g : Fin 256 → EReal) :
    (∑ t : Fin 256, f ⟨t.val / 64, by omega⟩ ⟨t.val % 64, by omega⟩ * g t) = ∑ h : Fin 4, ∑ d : Fin 64, f h d * g ⟨64 * h.val + d.val, by omega⟩ := by
  rw [← Fintype.sum_prod_type' (f := fun (h : Fin 4) (d : Fin 64) => f h d * g ⟨64 * h.val + d.val, by omega⟩)]
  refine (Fintype.sum_equiv (finProdFinEquiv (m := 4) (n := 64)) _ _ fun x => ?_).symm
  have e : ∀ h, (⟨64 * x.1.val + x.2.val, h⟩ : Fin 256) = finProdFinEquiv (m := 4) (n := 64) x := fun _ => Fin.ext (Nat.add_comm _ _)
  rw [e]
  have hv : (finProdFinEquiv (m := 4) (n := 64) x).val = x.2.val + 64 * x.1.val := rfl
  refine congrArg (· * _) (congrArg₂ f (Fin.ext ?_) (Fin.ext ?_))
  · dsimp only; omega
  · dsimp only; omega

/-- The rows of batch 0 of the partial product. -/
theorem product0 (q : FVec Ideal S512x256 .f32) (k v : Fin 2 → Fin 4 → Vec Ideal S1x256x64 .bf16) (wo : Vec Ideal S256x512 .f32) (i : Fin 256) (n : Fin 512) :
    product q k v wo (ix2 ⟨i.val, by omega⟩ n)
      = ∑ h : Fin 4, ∑ d : Fin 64, attend (headQ q 0 h) (rows (k 0 h)) (rows (v 0 h)) i d * wo (ix2 ⟨64 * h.val + d.val, by omega⟩ n) := by
  unfold product
  pointwise [k0_pay50]
  simp only [batch0, head01, head02]
  refine Eq.trans (Finset.sum_congr rfl fun t _ => ?_) (sum_four (fun h d => attend (headQ q 0 h) (rows (k 0 h)) (rows (v 0 h)) i d) (fun t => wo (ix2 t n)))
  refine congrArg (· * _) (Eq.trans ?_ (ladder (fun h d => attend (headQ q 0 h) (rows (k 0 h)) (rows (v 0 h)) i d) t))
  exact dite_congr rfl (fun h => head00 q (k 0 0) (v 0 0) i _) fun _ => rfl

/-- The rows of batch 1 of the partial product. -/
theorem product1 (q : FVec Ideal S512x256 .f32) (k v : Fin 2 → Fin 4 → Vec Ideal S1x256x64 .bf16) (wo : Vec Ideal S256x512 .f32) (i : Fin 256) (n : Fin 512) :
    product q k v wo (ix2 ⟨256 + i.val, by omega⟩ n)
      = ∑ h : Fin 4, ∑ d : Fin 64, attend (headQ q 1 h) (rows (k 1 h)) (rows (v 1 h)) i d * wo (ix2 ⟨64 * h.val + d.val, by omega⟩ n) := by
  unfold product
  pointwise [k0_pay50]
  refine Eq.trans (Finset.sum_congr rfl fun t _ => ?_) (sum_four (fun h d => attend (headQ q 1 h) (rows (k 1 h)) (rows (v 1 h)) i d) (fun t => wo (ix2 t n)))
  refine congrArg (· * _) (Eq.trans ?_ (ladder (fun h d => attend (headQ q 1 h) (rows (k 1 h)) (rows (v 1 h)) i d) t))
  simp only [head10, head11]
  pointwise [k0_pay49]
  simp only [maskV_apply]
  rfl

/-- The partial product at any row. -/
theorem product_apply (q : FVec Ideal S512x256 .f32) (k v : Fin 2 → Fin 4 → Vec Ideal S1x256x64 .bf16) (wo : Vec Ideal S256x512 .f32) (b : Fin 2) (i : Fin 256) (n : Fin 512) :
    product q k v wo (ix2 ⟨256 * b.val + i.val, by omega⟩ n)
      = ∑ h : Fin 4, ∑ d : Fin 64, attend (headQ q b h) (rows (k b h)) (rows (v b h)) i d * wo (ix2 ⟨64 * h.val + d.val, by omega⟩ n) := by
  have hb : b = 0 ∨ b = 1 := by omega
  rcases hb with rfl | rfl
  · refine Eq.trans (congrArg (fun r => product q k v wo (ix2 r n)) (Fin.ext ?_)) (product0 q k v wo i n)
    simp only [Fin.val_zero, Nat.mul_zero, Nat.zero_add]
  · exact product1 q k v wo i n

end Cert.KernelIdeal.Ring

end
-- ==== Proof.Values.Cache.lean ====
module

public import proofs.«01_k».proof.Proof.KernelIdeal.Compute

/-! The rows a device selects from the keys (or values), read at an index: the one-hot product picks the
device's heads, the masked sum picks the coordinate within a head. -/

@[expose] public section

set_option maxRecDepth 16384

noncomputable section

namespace Cert.KernelIdeal.Ring

open Idealize.ShloMosaic Idealize.ShloMosaic.TcCoe
open Cert.KernelIdeal Cert.KernelIdeal.Gen

/-- The block of 64 that a column lies in, as the body computes it. -/
theorem floor_word : ∀ t : Fin 256, Scalar.select
      (IntOp.andi
        (IntOp.cmpi CmpIPredicate.ne
          (IntOp.subi (BitVec.setWidth 32 (IntOp.cmpi CmpIPredicate.sgt (BitVec.ofNat 32 t.val) 0#32))
            (BitVec.setWidth 32 (IntOp.cmpi CmpIPredicate.slt (BitVec.ofNat 32 t.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 t.val) 64#32) 0#32))
      (IntOp.subi (IntOp.divsi ArithUnit.vector (BitVec.ofNat 32 t.val) 64#32) 1#32)
      (IntOp.divsi ArithUnit.vector (BitVec.ofNat 32 t.val) 64#32) = BitVec.ofNat 32 (t.val / 64) := by decide +kernel

/-- The number of a device's head, as the body computes it. -/
theorem head_word : ∀ (c : Dev nD) (g : Fin 4),
    IntOp.addi (Scalar.muli 4#32 (Scalar.remsi (Scalar.divsi c.word 1#32) 32#32)) (BitVec.ofNat 32 g.val) = BitVec.ofNat 32 (4 * c.val + g.val) := by
  decide +kernel

/-- Two heads' numbers compared as words. -/
theorem head_eq : ∀ a b : Fin 128, IntOp.cmpi CmpIPredicate.eq (BitVec.ofNat 32 a.val) (BitVec.ofNat 32 b.val) = BitVec.ofBool (decide (a.val = b.val)) := by
  decide +kernel

/-- The selection matrix holds one at the device's heads and zero elsewhere. -/
theorem selM_apply (c : Dev nD) (h : Fin 128) (t : Fin 256) :
    selM (F := Ideal) c (ix2 h t) = if h.val = 4 * c.val + t.val / 64 then 1 else 0 := by
  pointwise [selM, k0_pay4, k0_pay1, k0_pay2, k0_pay3, meWord]
  have hc : c.val < 32 := c.isLt
  have e := head_eq h ⟨4 * c.val + t.val / 64, by omega⟩
  dsimp only at e
  rw [floor_word, head_word c ⟨t.val / 64, by omega⟩, e]
  by_cases hh : h.val = 4 * c.val + t.val / 64
  · rw [if_pos hh, decide_eq_true hh]
    have e1 : (BitVec.setWidth 32 (BitVec.ofBool true)).toInt = 1 := by decide
    change ((((BitVec.setWidth 32 (BitVec.ofBool true)).toInt : ℤ) : ℝ) : EReal) = 1
    rw [e1, Int.cast_one, EReal.coe_one]
  · rw [if_neg hh, decide_eq_false hh]
    have e0 : (BitVec.setWidth 32 (BitVec.ofBool false)).toInt = 0 := by decide
    change ((((BitVec.setWidth 32 (BitVec.ofBool false)).toInt : ℤ) : ℝ) : EReal) = 0
    rw [e0, Int.cast_zero, EReal.coe_zero]

/-- The coordinate within a head, as the body computes it. -/
theorem rem_word : ∀ t : Fin 256,
      (Scalar.select
        (IntOp.andi
          (IntOp.xori
            (IntOp.cmpi CmpIPredicate.slt
              (IntOp.remsi ArithUnit.vector (BitVec.ofNat 32 t.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 t.val)
              (Scalar.select (Scalar.cmpi CmpIPredicate.eq 64#32 0#32) 1#32 64#32))
            0#32))
        (IntOp.addi
          (IntOp.remsi ArithUnit.vector (BitVec.ofNat 32 t.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 t.val)
          (Scalar.select (Scalar.cmpi CmpIPredicate.eq 64#32 0#32) 1#32 64#32))) = BitVec.ofNat 32 (t.val % 64) := by decide +kernel

/-- The coordinate mask. -/
theorem pay5_apply (j d : Fin 64) (t : Fin 256) : k0_pay5 (ix3 j d t) = BitVec.ofBool (decide (d.val = t.val % 64)) := by
  pointwise [k0_pay5]
  rw [rem_word]
  exact head_eq ⟨d.val, by omega⟩ ⟨t.val % 64, by omega⟩

/-- A block of the keys multiplied by the selection matrix. -/
theorem pay7_apply (sel : FVec Ideal S128x256 .bf16) (x : Vec Ideal S1x2x4096x128 .f32) (b : Fin 2) (j d : Fin 64) (t : Fin 256) :
    k0_pay7 sel x (ix4 b j d t) = ∑ h : Fin 128, x (ix4 0 b ⟨64 * j.val + d.val, by omega⟩ h) * sel (ix2 h t) := by
  pointwise [k0_pay7]
  refine Finset.sum_congr rfl fun h _ => ?_
  exact congrArg (· * _) (congrArg (fun r => x (ix4 0 b r h)) (Fin.ext (by dsimp only; omega)))

/-- The rows of batch 0 picked out of a block. -/
theorem pay8_apply (sel : FVec Ideal S128x256 .bf16) (m : IVec S64x64x256 1) (x : Vec Ideal S1x2x4096x128 .f32) (j : Fin 64) (t : Fin 256) :
    k0_pay8 sel m x (ix3 0 j t) = ∑ d : Fin 64, Scalar.select (m (ix3 j d t)) (k0_pay7 sel x (ix4 0 j d t)) 0 := by
  pointwise [k0_pay8]

/-- The rows of batch 1 picked out of a block. -/
theorem pay10_apply (sel : FVec Ideal S128x256 .bf16) (m : IVec S64x64x256 1) (x : Vec Ideal S1x2x4096x128 .f32) (j : Fin 64) (t : Fin 256) :
    k0_pay10 (k0_pay9 sel m x) (ix3 0 j t) = ∑ d : Fin 64, Scalar.select (m (ix3 j d t)) (k0_pay7 sel x (ix4 1 j d t)) 0 := by
  pointwise [k0_pay10, k0_pay9]

/-- A row selected by a device: coordinate `t % 64` of the device's head `t / 64`. -/
theorem cacheV_apply (c : Dev nD) (k : Vec Ideal S2x16384x128 .f32) (b : Fin 2) (r t : Fin 256) :
    cacheV c k (ix3 b r t) = k (ix3 b ⟨64 * r.val + t.val % 64, by omega⟩ ⟨4 * c.val + t.val / 64, by have : c.val < 32 := c.isLt; omega⟩) := by
  have hc : c.val < 32 := c.isLt
  have hp : ∀ j : Fin 64, pieceV c k b ⟨r.val / 64, by omega⟩ (ix3 0 j t)
      = ∑ d : Fin 64, Scalar.select (k0_pay5 (ix3 j d t)) (k0_pay7 (selM c) (blk k ⟨r.val / 64, by omega⟩) (ix4 b j d t)) 0 := by
    intro j
    have hb : b = 0 ∨ b = 1 := by omega
    rcases hb with rfl | rfl
    · exact pay8_apply _ _ _ j t
    · exact pay10_apply _ _ _ j t
  refine (hp ⟨r.val % 64, Nat.mod_lt _ (by decide)⟩).trans ?_
  refine (Finset.sum_eq_single (⟨t.val % 64, Nat.mod_lt _ (by decide)⟩ : Fin 64) (fun d _ hd => ?_) fun h => absurd (Finset.mem_univ _) h).trans ?_
  · rw [pay5_apply, decide_eq_false fun h => hd (Fin.ext h)]
    rfl
  · rw [pay5_apply, decide_eq_true rfl]
    change k0_pay7 _ _ _ = _
    rw [pay7_apply]
    refine (Finset.sum_eq_single (⟨4 * c.val + t.val / 64, by omega⟩ : Fin 128) (fun h _ hh => ?_) fun h => absurd (Finset.mem_univ _) h).trans ?_
    · rw [selM_apply, if_neg fun e => hh (Fin.ext e)]
      exact mul_zero _
    · rw [selM_apply, if_pos rfl]
      refine (mul_one _).trans ?_
      refine congrArg (fun y => k (ix3 b y _)) (Fin.ext ?_)
      change 4096 * (r.val / 64) + (64 * (r.val % 64) + t.val % 64) = 64 * r.val + t.val % 64
      omega

/-- The keys (or values) of one of a device's heads. -/
theorem headV_apply (c : Dev nD) (k : Vec Ideal S2x16384x128 .f32) (b : Fin 2) (h : Fin 4) (j : Fin 256) (d : Fin 64) :
    headV c k b h (ix3 0 j d) = k (ix3 b ⟨64 * j.val + d.val, by omega⟩ ⟨4 * c.val + h.val, by have : c.val < 32 := c.isLt; omega⟩) := by
  refine (cacheV_apply c k b j ⟨64 * h.val + d.val, by omega⟩).trans ?_
  refine congrArg₂ (fun x y => k (ix3 b x y)) (Fin.ext ?_) (Fin.ext ?_)
  · dsimp only; omega
  · dsimp only; omega

end Cert.KernelIdeal.Ring

end
-- ==== Proof.Values.Total.lean ====
module

public import proofs.«01_k».proof.Proof.KernelIdeal.Contents

/-! The assembled result at the exact instance: on every device, the sum of all the devices' partial results. -/

@[expose] public section

set_option maxRecDepth 16384

noncomputable section

namespace Cert.KernelIdeal.Ring

open Idealize.ShloMosaic Idealize.ShloMosaic.TcCoe
open Cert.KernelIdeal Cert.KernelIdeal.Gen

/-- A device's own term and those of its peers are the terms of all the devices. -/
theorem sum_peers (c : Dev nD) (f : Dev nD → EReal) : f c + (∑ o : Fin 31, f (peer c o)) = ∑ d : Dev nD, f d := by
  rw [← Finset.add_sum_erase Finset.univ f (Finset.mem_univ c)]
  refine congrArg (f c + ·) ?_
  refine Finset.sum_bij (fun o _ => peer c o) (fun o _ => Finset.mem_erase.2 ⟨peer_ne c o, Finset.mem_univ _⟩) (fun o _ o' _ h => peer_inj c h)
    (fun d hd => ?_) fun _ _ => rfl
  obtain ⟨o, ho⟩ := peer_surj c d (Finset.mem_erase.1 hd).1
  exact ⟨o, Finset.mem_univ _, ho⟩

variable (A : Dev nD → Vec Ideal S32x16x512 .bf16)

/-- A device's reduced chunk is the sum over all the devices. -/
theorem reduced (c : Dev nD) (r : Fin 16) (n : Fin 512) :
    k0_pay52 (chunkOf (A c) c) (com1V A c) (ix2 r n) = ∑ d : Dev nD, A d (ix3 c r n) := by
  refine Eq.trans ?_ (sum_peers c fun d => A d (ix3 c r n))
  pointwise [k0_pay52]
  rfl

/-- The result assembled on any device is the sum over all the devices. -/
theorem outV_apply (c : Dev nD) (e : Fin 32) (r : Fin 16) (n : Fin 512) :
    outV A c (ix3 e r n) = ∑ d : Dev nD, A d (ix3 e r n) := by
  unfold outV
  by_cases h : e = c
  · subst h
    refine (if_pos rfl).trans (Eq.trans ?_ (reduced A e r n))
    change k0_pay54 _ _ (ix3 0 r n) = _
    pointwise [k0_pay54]
  · refine (if_neg fun he => h (Fin.ext he)).trans (Eq.trans ?_ (reduced A e r n))
    change k0_pay55 (sumV A e) (ix3 0 r n) = _
    unfold sumV
    pointwise [k0_pay55, k0_pay53]

end Cert.KernelIdeal.Ring

end
-- ==== Proof.Values.Kernel.lean ====
module

public import proofs.«01_k».proof.Proof.KernelIdeal.Main
public import proofs.«01_k».proof.Proof.Values.Head
public import proofs.«01_k».proof.Proof.Values.Cache
public import proofs.«01_k».proof.Proof.Values.Total

/-! The kernel's result at the exact instance, at an index, in terms of the arguments at launch. -/

@[expose] public section

set_option maxRecDepth 16384

noncomputable section

namespace Cert.KernelIdeal.Ring

open Idealize.ShloMosaic Idealize.ShloMosaic.TcCoe Idealize.ShloMosaic.StableHlo
open Cert.KernelIdeal Cert.KernelIdeal.Gen Cert.Values

variable (m : (ℓ : Loc nD τ sig) → Buf (Elt Ideal) ℓ)

/-- The arguments of a device at launch. -/
abbrev X (c : Dev nD) : Vec Ideal S2x256x512 .f32 := m ((c : Thread nD τ).loc main_arg0)
/-- The columns of the query weights of a device. -/
abbrev Wq (c : Dev nD) : Vec Ideal S512x256 .f32 := m ((c : Thread nD τ).loc main_arg1)
/-- The keys. -/
abbrev Ke (c : Dev nD) : Vec Ideal S2x256x128x64 .f32 := m ((c : Thread nD τ).loc main_arg2)
/-- The values. -/
abbrev Va (c : Dev nD) : Vec Ideal S2x256x128x64 .f32 := m ((c : Thread nD τ).loc main_arg3)
/-- The rows of the output weights of a device. -/
abbrev Wo (c : Dev nD) : Vec Ideal S256x512 .f32 := m ((c : Thread nD τ).loc main_arg4)

/-- The keys as the kernel is called on them: coordinate before head. -/
theorem V₁_v2 (c : Dev nD) (b : Fin 2) (r : Fin 16384) (h : Fin 128) :
    (V₁ m c main_v2 : Vec Ideal S2x16384x128 .f32) (ix3 b r h) = Ke m c (ix4 b ⟨r.val / 64, by omega⟩ h ⟨r.val % 64, by omega⟩) := by
  have e : (V₁ m c main_v2 : Vec Ideal S2x16384x128 .f32)
      = shapeCast S2x16384x128 (transpose S2x256x64x128 [0, 1, 3, 2] (Ke m c) transposes_S2x256x128x64_S2x256x64x128_0_1_3_2) shapeCasts_S2x256x64x128_S2x16384x128 := by
    simp only [hostOps0]
    after_results_simp <;> rfl
  rw [e]
  pointwise

/-- The values as the kernel is called on them: coordinate before head. -/
theorem V₁_v4 (c : Dev nD) (b : Fin 2) (r : Fin 16384) (h : Fin 128) :
    (V₁ m c main_v4 : Vec Ideal S2x16384x128 .f32) (ix3 b r h) = Va m c (ix4 b ⟨r.val / 64, by omega⟩ h ⟨r.val % 64, by omega⟩) := by
  have e : (V₁ m c main_v4 : Vec Ideal S2x16384x128 .f32)
      = shapeCast S2x16384x128 (transpose S2x256x64x128 [0, 1, 3, 2] (Va m c) transposes_S2x256x128x64_S2x256x64x128_0_1_3_2) shapeCasts_S2x256x64x128_S2x16384x128 := by
    simp only [hostOps0]
    after_results_simp <;> rfl
  rw [e]
  pointwise

/-- The result as it was assembled, its rows counted within a batch. -/
theorem V₃_v6 (c : Dev nD) (b : Fin 2) (i : Fin 256) (n : Fin 512) :
    (V₃ m c main_v6 : Vec Ideal S2x256x512 .f32) (ix3 b i n) = outV (part m) c (ix3 ⟨(256 * b.val + i.val) / 16, by omega⟩ ⟨(256 * b.val + i.val) % 16, by omega⟩ n) := by
  have e : (V₃ m c main_v6 : Vec Ideal S2x256x512 .f32) = shapeCast S2x256x512 (outV (part m) c) shapeCasts_S32x16x512_S2x256x512 := by
    change StableHlo.after hostOps1 (V₂ m c) (Proc.devRef .tc main_v6) = _
    after_results_simp <;> rfl
  rw [e]
  pointwise
  exact congrArg₂ (fun x y => outV (part m) c (ix3 x y n)) (Fin.ext (by dsimp only; omega)) (Fin.ext (by dsimp only; omega))

/-- The queries of a device: a row of the input times the device's columns of the weights. -/
theorem query (x : Vec Ideal S2x256x512 .f32) (w : Vec Ideal S512x256 .f32) (b : Fin 2) (h : Fin 4) :
    headQ (k0_pay6 x w) b h = fun i d => ∑ e : Fin 512, x (ix3 b i e) * w (ix2 e ⟨64 * h.val + d.val, by omega⟩) := by
  funext i d
  unfold headQ
  pointwise [k0_pay6]

/-- A device's partial result at an index: its four heads' attention times its rows of the output weights. -/
theorem part_apply (c : Dev nD) (b : Fin 2) (i : Fin 256) (n : Fin 512) :
    part m c (ix3 ⟨(256 * b.val + i.val) / 16, by omega⟩ ⟨(256 * b.val + i.val) % 16, by omega⟩ n)
      = ∑ h : Fin 4, ∑ d : Fin 64,
          attend (fun i d => ∑ e : Fin 512, X m c (ix3 b i e) * Wq m c (ix2 e ⟨64 * h.val + d.val, by omega⟩))
            (fun j d => Ke m c (ix4 b j ⟨4 * c.val + h.val, by have : c.val < 32 := c.isLt; omega⟩ d))
            (fun j d => Va m c (ix4 b j ⟨4 * c.val + h.val, by have : c.val < 32 := c.isLt; omega⟩ d)) i d
          * Wo m c (ix2 ⟨64 * h.val + d.val, by omega⟩ n) := by
  have hc : c.val < 32 := c.isLt
  have hk : ∀ h : Fin 4, rows (headV c (V₁ m c main_v2) b h) = fun j d => Ke m c (ix4 b j ⟨4 * c.val + h.val, by omega⟩ d) := fun h => by
    funext j d
    refine (headV_apply c _ b h j d).trans ((V₁_v2 m c b _ _).trans ?_)
    exact congrArg₂ (fun x y => Ke m c (ix4 b x _ y)) (Fin.ext (by dsimp only; omega)) (Fin.ext (by dsimp only; omega))
  have hv : ∀ h : Fin 4, rows (headV c (V₁ m c main_v4) b h) = fun j d => Va m c (ix4 b j ⟨4 * c.val + h.val, by omega⟩ d) := fun h => by
    funext j d
    refine (headV_apply c _ b h j d).trans ((V₁_v4 m c b _ _).trans ?_)
    exact congrArg₂ (fun x y => Va m c (ix4 b x _ y)) (Fin.ext (by dsimp only; omega)) (Fin.ext (by dsimp only; omega))
  have hx : (V₁ m c main_arg0 : Vec Ideal S2x256x512 .f32) = X m c := V_main_arg0 m c
  have hq : (V₁ m c main_arg1 : Vec Ideal S512x256 .f32) = Wq m c := V_main_arg1 m c
  have ho : (V₁ m c main_arg4 : Vec Ideal S256x512 .f32) = Wo m c := V_main_arg4 m c
  have e : part m c (ix3 ⟨(256 * b.val + i.val) / 16, by omega⟩ ⟨(256 * b.val + i.val) % 16, by omega⟩ n)
      = product (k0_pay6 (V₁ m c main_arg0) (V₁ m c main_arg1)) (headV c (V₁ m c main_v2)) (headV c (V₁ m c main_v4)) (V₁ m c main_arg4)
        (ix2 ⟨256 * b.val + i.val, by omega⟩ n) := by
    unfold part
    pointwise [k0_pay51]
    exact congrArg (fun r => product _ _ _ _ (ix2 r n)) (Fin.ext (by dsimp only; omega))
  refine e.trans ((product_apply _ _ _ _ b i n).trans ?_)
  rw [hx, hq, ho]
  refine Finset.sum_congr rfl fun h _ => Finset.sum_congr rfl fun d _ => ?_
  rw [query, hk, hv]

/-- The kernel's result at an index: over all devices and their heads. -/
theorem kernel_apply (c : Dev nD) (b : Fin 2) (i : Fin 256) (n : Fin 512) :
    (V₃ m c main_v6 : Vec Ideal S2x256x512 .f32) (ix3 b i n)
      = ∑ c : Dev nD, ∑ h : Fin 4, ∑ d : Fin 64,
          attend (fun i d => ∑ e : Fin 512, X m c (ix3 b i e) * Wq m c (ix2 e ⟨64 * h.val + d.val, by omega⟩))
            (fun j d => Ke m c (ix4 b j ⟨4 * c.val + h.val, by have : c.val < 32 := c.isLt; omega⟩ d))
            (fun j d => Va m c (ix4 b j ⟨4 * c.val + h.val, by have : c.val < 32 := c.isLt; omega⟩ d)) i d
          * Wo m c (ix2 ⟨64 * h.val + d.val, by omega⟩ n) :=
  (V₃_v6 m c b i n).trans ((outV_apply (part m) c _ _ n).trans (Finset.sum_congr rfl fun c _ => part_apply m c b i n))

end Cert.KernelIdeal.Ring

end
-- ==== Proof.Values.Reference.lean ====
module

public import proofs.«01_k».proof.Proof.Gen.ReferenceIdeal.Run
public import proofs.«01_k».proof.Proof.Values.Formula

/-! The reference's result at the exact instance, at an index, in terms of its arguments. -/

@[expose] public section

set_option maxRecDepth 16384

noncomputable section

namespace Cert.ReferenceIdeal.Whole

open Idealize.ShloMosaic Idealize.ShloMosaic.TcCoe Idealize.SL.Sem
open Cert.ReferenceIdeal Cert.ReferenceIdeal.Gen Cert.Values

/-- The block of 64 rows each row lies in. -/
def blockR : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

/-- The mask. -/
def maskR : IVec S256x256 1 :=
  cmpi .sle (broadcastInDim S256x256 ![0, 1] bcast_S1x256_S256x256_0_1 (broadcastInDim S1x256 ![1] bcast_S256_S1x256_1 blockR))
    (broadcastInDim S256x256 ![0, 1] bcast_S256x1_S256x256_0_1 (broadcastInDim S256x1 ![0] bcast_S256_S256x1_0 blockR))

/-- The scaled and masked scores. -/
def scoreR (x : FVec Ideal S2x256x512 .f32) (wq : FVec Ideal S512x8192 .f32) (k : FVec Ideal S2x256x128x64 .f32) : FVec Ideal S2x128x256x256 .f32 :=
  select (broadcastInDim S2x128x256x256 ![0, 1, 2, 3] bcast_S1x1x256x256_S2x128x256x256_0_1_2_3 (broadcastInDim S1x1x256x256 ![2, 3] bcast_S256x256_S1x1x256x256_2_3 maskR))
    (mulf (Host.dotGeneral dot_S2x256x128x64_S2x256x128x64_S2x128x256x256_3_3_1_1_02_02 none
        (shapeCast S2x256x128x64 (Host.dotGeneral dot_S2x256x512_S512x8192_S2x256x8192_2_0_01_1_n_n none x wq) shapeCasts_S2x256x8192_S2x256x128x64) k)
      (broadcastInDim S2x128x256x256 ![] bcast_S_S2x128x256x256 (constant S_ .f32 0x3E000000#32)))
    (broadcastInDim S2x128x256x256 ![] bcast_S_S2x128x256x256 (constant S_ .f32 0xCE6E6B28#32))

/-- The exponentials of the scores less their row's greatest. -/
def expR (s : FVec Ideal S2x128x256x256 .f32) : FVec Ideal S2x128x256x256 .f32 :=
  Host.exp (subf s (broadcastInDim S2x128x256x256 ![0, 1, 2, 3] bcast_S2x128x256x1_S2x128x256x256_0_1_2_3 (broadcastInDim S2x128x256x1 ![0, 1, 2] bcast_S2x128x256_S2x128x256x1_0_1_2
    (Host.reduce FloatOps.maximumf s (constant S_ .f32 0xFF800000#32) reducesTo_S2x128x256x256_S2x128x256_d3 h_S_))))

/-- Whether a row keeps any entry. -/
def rowR : IVec S256 1 := Host.reduce IntOp.ori maskR (constantI S_ 1 0#1) reducesTo_S256x256_S256_d1 h_S_

/-- The normalised weights. -/
def normR (e : FVec Ideal S2x128x256x256 .f32) : FVec Ideal S2x128x256x256 .f32 :=
  select (broadcastInDim S2x128x256x256 ![0, 1, 2, 3] bcast_S1x1x256x1_S2x128x256x256_0_1_2_3 (broadcastInDim S1x1x256x1 ![2] bcast_S256_S1x1x256x1_2 rowR))
    (Host.divf e (broadcastInDim S2x128x256x256 ![0, 1, 2, 3] bcast_S2x128x256x1_S2x128x256x256_0_1_2_3
      (select (broadcastInDim S2x128x256x1 ![0, 1, 2, 3] bcast_S1x1x256x1_S2x128x256x1_0_1_2_3 (broadcastInDim S1x1x256x1 ![2] bcast_S256_S1x1x256x1_2 rowR))
        (broadcastInDim S2x128x256x1 ![0, 1, 2] bcast_S2x128x256_S2x128x256x1_0_1_2 (Host.reduceAdd e (constant S_ .f32 0x00000000#32) reducesTo_S2x128x256x256_S2x128x256_d3 h_S_))
        (broadcastInDim S2x128x256x1 ![] bcast_S_S2x128x256x1 (constant S_ .f32 0x3F800000#32)))))
    (broadcastInDim S2x128x256x256 ![] bcast_S_S2x128x256x256 (constant S_ .f32 0x00000000#32))

/-- The attention of all heads, side by side. -/
def ctxR (v : FVec Ideal S2x256x128x64 .f32) (w : FVec Ideal S2x128x256x256 .f32) : FVec Ideal S2x256x8192 .f32 :=
  shapeCast S2x256x8192 (transpose S2x256x128x64 [0, 3, 1, 2] (Host.dotGeneral dot_S2x256x128x64_S2x128x256x256_S2x128x64x256_1_3_3_2_02_01 none v w)
    transposes_S2x128x64x256_S2x256x128x64_0_3_1_2) shapeCasts_S2x256x128x64_S2x256x8192

/-- The reference's result from its arguments. -/
def whole (x : FVec Ideal S2x256x512 .f32) (wq : FVec Ideal S512x8192 .f32) (k v : FVec Ideal S2x256x128x64 .f32) (wo : FVec Ideal S8192x512 .f32) : FVec Ideal S2x256x512 .f32 :=
  Host.dotGeneral dot_S2x256x8192_S8192x512_S2x256x512_2_0_01_1_n_n none (ctxR v (normR (expR (scoreR x wq k)))) wo

/-- The reference's term is that function of its arguments. -/
theorem res_eq (m : (ℓ : Loc nD τ sig) → Buf (Elt Ideal) ℓ) (c : Dev nD) :
    Value.res_out0 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_out0 Value.res_main_v33
  rfl

/-- The block of a row, as a word. -/
theorem blockR_apply (i : Fin 256) : blockR (ix1 i) = BitVec.ofNat 32 (i.val / 64) := by
  have h : ∀ i : Fin 256, Scalar.select
        (IntOp.andi
          (IntOp.cmpi CmpIPredicate.ne
            (if BitVec.ofNat 32 i.val = 0 then (0 : BitVec 32) else if (BitVec.ofNat 32 i.val).msb = true then -1 else 1)
            (if (64#32 : BitVec 32) = 0 then (0 : BitVec 32) else if (64#32 : BitVec 32).msb = true then -1 else 1))
          (IntOp.cmpi CmpIPredicate.ne (IntOp.remsi ArithUnit.host (BitVec.ofNat 32 i.val) 64#32) 0#32))
        (IntOp.subi (IntOp.divsi ArithUnit.host (BitVec.ofNat 32 i.val) 64#32) 1#32)
        (IntOp.divsi ArithUnit.host (BitVec.ofNat 32 i.val) 64#32) = BitVec.ofNat 32 (i.val / 64) := by decide +kernel
  refine Eq.trans ?_ (h i)
  pointwise [blockR]

/-- The mask is the formula's. -/
theorem maskR_apply (i j : Fin 256) : maskR (ix2 i j) = keep i j := by
  pointwise [maskR]
  have hc : ∀ a b : Fin 4, IntOp.cmpi CmpIPredicate.sle (BitVec.ofNat 32 a.val) (BitVec.ofNat 32 b.val) = BitVec.ofBool (decide (a.val ≤ b.val)) := by decide +kernel
  rw [blockR_apply, blockR_apply]
  exact hc ⟨j.val / 64, by omega⟩ ⟨i.val / 64, by omega⟩

/-- Every row keeps its own entry, so every row keeps some. -/
theorem rowR_apply (i : Fin 256) : rowR (ix1 i) = 1#1 := by
  pointwise [rowR]
  have h1 : ∀ a : BitVec 1, IntOp.ori 1#1 a = 1#1 := by decide
  rw [← Finset.insert_erase (Finset.mem_univ i), Finset.fold_insert (Finset.notMem_erase _ _), maskR_apply]
  have hk : keep i i = 1#1 := by unfold keep; rw [decide_eq_true (le_refl _)]; rfl
  rw [hk, h1]

/-- The scores at an index. -/
theorem scoreR_apply (x : FVec Ideal S2x256x512 .f32) (wq : FVec Ideal S512x8192 .f32) (k : FVec Ideal S2x256x128x64 .f32) (b : Fin 2) (h : Fin 128) (i j : Fin 256) :
    scoreR x wq k (ix4 b h i j) = score (fun i d => ∑ e : Fin 512, x (ix3 b i e) * wq (ix2 e ⟨64 * h.val + d.val, by omega⟩)) (fun j d => k (ix4 b j h d)) i j := by
  pointwise [scoreR]
  rw [maskR_apply]
  unfold score
  refine congrArg (fun z => Scalar.select _ (z * _) _) (Finset.sum_congr rfl fun d _ => congrArg (· * _) (Finset.sum_congr rfl fun e _ => ?_))
  exact congrArg (fun y => x (ix3 b i e) * wq (ix2 e y)) (Fin.ext (by dsimp only; omega))

/-- The exponentials at an index. -/
theorem expR_apply (s : FVec Ideal S2x128x256x256 .f32) (b : Fin 2) (h : Fin 128) (i j : Fin 256) :
    expR s (ix4 b h i j) = Ideal.exp (s (ix4 b h i j) - (Finset.univ : Finset (Fin 256)).fold max (Ideal.ofBits .f32 0xFF800000#32) fun l => s (ix4 b h i l)) := by
  pointwise [expR]

/-- The normalised weights at an index. -/
theorem normR_apply (e : FVec Ideal S2x128x256x256 .f32) (b : Fin 2) (h : Fin 128) (i j : Fin 256) :
    normR e (ix4 b h i j) = Ideal.div (e (ix4 b h i j)) (∑ l : Fin 256, e (ix4 b h i l)) := by
  pointwise [normR]
  rw [rowR_apply]
  rfl

/-- The attention of all heads at an index. -/
theorem ctxR_apply (v : FVec Ideal S2x256x128x64 .f32) (w : FVec Ideal S2x128x256x256 .f32) (b : Fin 2) (i : Fin 256) (t : Fin 8192) :
    ctxR v w (ix3 b i t) = ∑ j : Fin 256, w (ix4 b ⟨t.val / 64, by omega⟩ i j) * v (ix4 b j ⟨t.val / 64, by omega⟩ ⟨t.val % 64, by omega⟩) := by
  pointwise [ctxR]
  exact Finset.sum_congr rfl fun j _ => mul_comm _ _

/-- The attention of one head of one batch, in the whole arrays. -/
def ctx (x : FVec Ideal S2x256x512 .f32) (wq : FVec Ideal S512x8192 .f32) (k v : FVec Ideal S2x256x128x64 .f32) (b : Fin 2) (h : Fin 128) : Fin 256 → Fin 64 → EReal :=
  attend (fun i d => ∑ e : Fin 512, x (ix3 b i e) * wq (ix2 e ⟨64 * h.val + d.val, by omega⟩)) (fun j d => k (ix4 b j h d)) (fun j d => v (ix4 b j h d))

/-- The reference's result at an index: over all coordinates of all heads. -/
theorem whole_apply (x : FVec Ideal S2x256x512 .f32) (wq : FVec Ideal S512x8192 .f32) (k v : FVec Ideal S2x256x128x64 .f32) (wo : FVec Ideal S8192x512 .f32)
    (b : Fin 2) (i : Fin 256) (n : Fin 512) :
    whole x wq k v wo (ix3 b i n) = ∑ t : Fin 8192, ctx x wq k v b ⟨t.val / 64, by omega⟩ i ⟨t.val % 64, by omega⟩ * wo (ix2 t n) := by
  have h : ∀ t : Fin 8192, ctxR v (normR (expR (scoreR x wq k))) (ix3 b i t) = ctx x wq k v b ⟨t.val / 64, by omega⟩ i ⟨t.val % 64, by omega⟩ := by
    intro t
    rw [ctxR_apply]
    unfold ctx attend weight
    simp only [normR_apply, expR_apply, scoreR_apply]
  pointwise [whole]
  simp only [h]

end Cert.ReferenceIdeal.Whole

end
-- ==== Proof.Values.Equation.lean ====
module

public import proofs.«01_k».proof.Proof.Values.Kernel
public import proofs.«01_k».proof.Proof.Values.Reference
public import Idealize.ShloMosaic.Lib.Layout

/-! The kernel's result on every device equals the reference's: the reference's sum over the coordinates of
all heads, taken device by device and head by head. -/

@[expose] public section

noncomputable section

namespace Cert.Values

open Idealize.ShloMosaic Idealize.ShloMosaic.TcCoe

/-- A sum over all coordinates of all heads, by devices, their heads and the coordinates of a head. -/
theorem sum_heads (f : Fin 8192 → EReal) :
    (∑ c : Fin 32, ∑ h : Fin 4, ∑ d : Fin 64, f ⟨256 * c.val + (64 * h.val + d.val), by omega⟩) = ∑ t : Fin 8192, f t := by
  have h1 : ∀ g : Fin 256 → EReal, (∑ h : Fin 4, ∑ d : Fin 64, g ⟨64 * h.val + d.val, by omega⟩) = ∑ t : Fin 256, g t := fun g => by
    rw [← Fintype.sum_prod_type' (f := fun (h : Fin 4) (d : Fin 64) => g ⟨64 * h.val + d.val, by omega⟩)]
    exact Fintype.sum_equiv (finProdFinEquiv (m := 4) (n := 64)) _ _ fun x => congrArg g (Fin.ext (Nat.add_comm _ _))
  have h2 : ∀ c : Fin 32, (∑ h : Fin 4, ∑ d : Fin 64, f ⟨256 * c.val + (64 * h.val + d.val), by omega⟩) = ∑ t : Fin 256, f ⟨256 * c.val + t.val, by omega⟩ :=
    fun c => h1 fun t => f ⟨256 * c.val + t.val, by omega⟩
  simp only [h2]
  rw [← Fintype.sum_prod_type' (f := fun (c : Fin 32) (t : Fin 256) => f ⟨256 * c.val + t.val, by omega⟩)]
  exact Fintype.sum_equiv (finProdFinEquiv (m := 32) (n := 256)) _ _ fun x => congrArg f (Fin.ext (Nat.add_comm _ _))

/-- The columns of a device of the query weights, at an index. -/
theorem cols_apply (w : FVec Ideal ⟨2, ![512, 8192]⟩ .f32) (c : Fin 32) (e : Fin 512) (t : Fin 256) :
    (Layout.block ⟨2, ![512, 256]⟩ ⟨2, ![512, 8192]⟩ 1 32 c w : FVec Ideal ⟨2, ![512, 256]⟩ .f32) (ix2 e t) = w (ix2 e ⟨256 * c.val + t.val, by omega⟩) := by
  rw [Layout.block_apply]
  refine congrArg w ?_
  funext a
  refine Fin.ext ?_
  fin_cases a
  · rw [Layout.Tiles.idx_val]; rfl
  · rw [Layout.Tiles.idx_val]; exact congrArg (· + t.val) (Nat.mul_comm _ _)

/-- The rows of a device of the output weights, at an index. -/
theorem rows_apply (w : FVec Ideal ⟨2, ![8192, 512]⟩ .f32) (c : Fin 32) (t : Fin 256) (n : Fin 512) :
    (Layout.block ⟨2, ![256, 512]⟩ ⟨2, ![8192, 512]⟩ 0 32 c w : FVec Ideal ⟨2, ![256, 512]⟩ .f32) (ix2 t n) = w (ix2 ⟨256 * c.val + t.val, by omega⟩ n) := by
  rw [Layout.block_apply]
  refine congrArg w ?_
  funext a
  refine Fin.ext ?_
  fin_cases a
  · rw [Layout.Tiles.idx_val]; exact congrArg (· + t.val) (Nat.mul_comm _ _)
  · rw [Layout.Tiles.idx_val]; rfl

/-- Where every device holds its part of the arguments, its result is the reference's. -/
theorem equation (m : (ℓ : Loc KernelIdeal.nD KernelIdeal.τ KernelIdeal.sig) → Buf (Elt Ideal) ℓ)
    (x : FVec Ideal ReferenceIdeal.S2x256x512 .f32) (wq : FVec Ideal ReferenceIdeal.S512x8192 .f32) (k v : FVec Ideal ReferenceIdeal.S2x256x128x64 .f32)
    (wo : FVec Ideal ReferenceIdeal.S8192x512 .f32)
    (hx : ∀ c, KernelIdeal.Ring.X m c = x) (hq : ∀ c, KernelIdeal.Ring.Wq m c = Layout.block ⟨2, ![512, 256]⟩ ⟨2, ![512, 8192]⟩ 1 32 c wq)
    (hk : ∀ c, KernelIdeal.Ring.Ke m c = k) (hv : ∀ c, KernelIdeal.Ring.Va m c = v)
    (ho : ∀ c, KernelIdeal.Ring.Wo m c = Layout.block ⟨2, ![256, 512]⟩ ⟨2, ![8192, 512]⟩ 0 32 c wo) (c : Dev KernelIdeal.nD) :
    KernelIdeal.Ring.V₃ m c KernelIdeal.main_v6 = ReferenceIdeal.Whole.whole x wq k v wo := by
  funext y
  obtain ⟨b, i, n, rfl⟩ : ∃ (b : Fin 2) (i : Fin 256) (n : Fin 512), y = ix3 b i n := ⟨y 0, y 1, y 2, eq_ix3 y⟩
  refine Eq.trans (α := EReal) (KernelIdeal.Ring.kernel_apply m c b i n) ?_
  refine Eq.trans (α := EReal) ?_ (ReferenceIdeal.Whole.whole_apply x wq k v wo b i n).symm
  refine Eq.trans (α := EReal) ?_ (sum_heads fun t => ReferenceIdeal.Whole.ctx x wq k v b ⟨t.val / 64, by omega⟩ i ⟨t.val % 64, by omega⟩ * wo (ix2 t n))
  refine Finset.sum_congr rfl fun c _ => Finset.sum_congr rfl fun h _ => Finset.sum_congr rfl fun d _ => ?_
  have hc : c.val < 32 := c.isLt
  rw [hx, hq, hk, hv, ho]
  have e1 : (⟨(256 * c.val + (64 * h.val + d.val)) / 64, by omega⟩ : Fin 128) = ⟨4 * c.val + h.val, by omega⟩ := Fin.ext (by dsimp only; omega)
  have e2 : (⟨(256 * c.val + (64 * h.val + d.val)) % 64, by omega⟩ : Fin 64) = d := Fin.ext (by dsimp only; omega)
  dsimp only
  rw [e1, e2]
  refine congrArg₂ (· * ·) ?_ (rows_apply wo c ⟨64 * h.val + d.val, by omega⟩ n)
  unfold ReferenceIdeal.Whole.ctx
  refine congrArg (fun q => attend q _ _ i d) ?_
  funext i d
  refine Finset.sum_congr rfl fun e _ => congrArg (x (ix3 b i e) * ·) ?_
  refine (cols_apply wq c e ⟨64 * h.val + d.val, by omega⟩).trans (congrArg (fun t => wq (ix2 e t)) (Fin.ext ?_))
  dsimp only
  omega

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Main
public import proofs.«01_k».proof.Proof.KernelIdeal.Main
public import proofs.«01_k».proof.Proof.Values.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's run leaves its arguments and every counter at zero. -/
theorem frame_kernel : quiescent_Kernel (hKernel := Cert.Kernel.Gen.facts) := fun m g _ =>
  (θ_run _ _ _).mono (fun _ h => ⟨fun c => (h.1 c).2, h.2⟩) (Cert.Kernel.Ring.run_main m g)

/-- So does the kernel read on extended reals. -/
theorem frame_ideal : quiescent_KernelIdeal (hKernelIdeal := Cert.KernelIdeal.Gen.facts) := fun m g _ =>
  (θ_run _ _ _).mono (fun _ h => ⟨fun c => (h.1 c).2, h.2⟩) (Cert.KernelIdeal.Ring.run_main m g)

/-- So does the reference, which has no counters. -/
theorem frame_reference : quiescent_ReferenceIdeal (hReferenceIdeal := Cert.ReferenceIdeal.Gen.facts) := fun m g _ =>
  (θ_run _ _ _).mono (fun _ h => ⟨fun c => (h c).2, sem_eq_zero_of_no_sems rfl _⟩) (Cert.ReferenceIdeal.Value.run m g)

/-- The kernel's result on every device is the reference's result. -/
theorem algebraic : algebraic_KernelIdeal_ReferenceIdeal (hKernelIdeal := Cert.KernelIdeal.Gen.facts) (hReferenceIdeal := Cert.ReferenceIdeal.Gen.facts) :=
  fun m g m' g' _ h => ⟨Cert.ReferenceIdeal.Value.res_out0 m' 0,
    (θ_run _ _ _).mono (fun _ r c => ⟨(r.1 c).1.trans ((Cert.Values.equation m _ _ _ _ _ (fun c => (h c).1) (fun c => (h c).2.1)
      (fun c => (h c).2.2.1) (fun c => (h c).2.2.2.1) (fun c => (h c).2.2.2.2) c).trans (Cert.ReferenceIdeal.Whole.res_eq m' 0).symm), (r.1 c).2⟩)
      (Cert.KernelIdeal.Ring.run_main m g),
    (θ_run _ _ _).mono (fun _ r => r 0) (Cert.ReferenceIdeal.Value.run m' g')⟩

/-- All the claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
